-- ==== Defs.lean ====
def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_bounds_ok [hPre_bounds_ok : Cert.Pre_bounds_ok.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_bounds_ok.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3))) = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_bounds_ok [hPre_bounds_ok : Cert.Pre_bounds_ok.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_bounds_ok.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3))) = (fun _ => 1#1)

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjRefIdeal (m : (ℓ : Loc Cert.QProjRefIdeal.nD Cert.QProjRefIdeal.τ Cert.QProjRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_KvSample (m : (ℓ : Loc Cert.KvSample.nD Cert.KvSample.τ Cert.KvSample.sig) → Buf (Elt Bits) ℓ) : Prop :=
  True

def Pre_KvSampleIdeal (m : (ℓ : Loc Cert.KvSampleIdeal.nD Cert.KvSampleIdeal.τ Cert.KvSampleIdeal.sig) → Buf (Elt Ideal) ℓ) : Prop :=
  True

def Pre_KvSampleRefIdeal (m : (ℓ : Loc Cert.KvSampleRefIdeal.nD Cert.KvSampleRefIdeal.τ Cert.KvSampleRefIdeal.sig) → Buf (Elt Ideal) ℓ) : Prop :=
  True

def Pre_LastSample (m : (ℓ : Loc Cert.LastSample.nD Cert.LastSample.τ Cert.LastSample.sig) → Buf (Elt Bits) ℓ) : Prop :=
  True

def Pre_LastSampleIdeal (m : (ℓ : Loc Cert.LastSampleIdeal.nD Cert.LastSampleIdeal.τ Cert.LastSampleIdeal.sig) → Buf (Elt Ideal) ℓ) : Prop :=
  True

def Pre_LastSampleRefIdeal (m : (ℓ : Loc Cert.LastSampleRefIdeal.nD Cert.LastSampleRefIdeal.τ Cert.LastSampleRefIdeal.sig) → Buf (Elt Ideal) ℓ) : Prop :=
  True

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnIdeal_pre_bounds_ok [hHgrnIdeal : Cert.HgrnIdeal.Facts] [hPre_bounds_ok : Cert.Pre_bounds_ok.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_bounds_ok m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_HgrnRefIdeal_pre_bounds_ok [hHgrnRefIdeal : Cert.HgrnRefIdeal.Facts] [hPre_bounds_ok : Cert.Pre_bounds_ok.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_bounds_ok m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5)
      ∧ r.2.mem ((c.tc : Thread Cert.FfnFirst.nD Cert.FfnFirst.τ).loc Cert.FfnFirst.main_arg6) = m ((c.tc : Thread Cert.FfnFirst.nD Cert.FfnFirst.τ).loc Cert.FfnFirst.main_arg6)
      ∧ r.2.mem ((c.tc : Thread Cert.FfnFirst.nD Cert.FfnFirst.τ).loc Cert.FfnFirst.main_arg7) = m ((c.tc : Thread Cert.FfnFirst.nD Cert.FfnFirst.τ).loc Cert.FfnFirst.main_arg7)
      ∧ r.2.mem ((c.tc : Thread Cert.FfnFirst.nD Cert.FfnFirst.τ).loc Cert.FfnFirst.main_arg8) = m ((c.tc : Thread Cert.FfnFirst.nD Cert.FfnFirst.τ).loc Cert.FfnFirst.main_arg8)
      ∧ r.2.mem ((c.tc : Thread Cert.FfnFirst.nD Cert.FfnFirst.τ).loc Cert.FfnFirst.main_arg9) = m ((c.tc : Thread Cert.FfnFirst.nD Cert.FfnFirst.τ).loc Cert.FfnFirst.main_arg9))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
      ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6)
      ∧ r.2.mem ((c.tc : Thread Cert.FfnFirstIdeal.nD Cert.FfnFirstIdeal.τ).loc Cert.FfnFirstIdeal.main_arg7) = m ((c.tc : Thread Cert.FfnFirstIdeal.nD Cert.FfnFirstIdeal.τ).loc Cert.FfnFirstIdeal.main_arg7)
      ∧ r.2.mem ((c.tc : Thread Cert.FfnFirstIdeal.nD Cert.FfnFirstIdeal.τ).loc Cert.FfnFirstIdeal.main_arg8) = m ((c.tc : Thread Cert.FfnFirstIdeal.nD Cert.FfnFirstIdeal.τ).loc Cert.FfnFirstIdeal.main_arg8)
      ∧ r.2.mem ((c.tc : Thread Cert.FfnFirstIdeal.nD Cert.FfnFirstIdeal.τ).loc Cert.FfnFirstIdeal.main_arg9) = m ((c.tc : Thread Cert.FfnFirstIdeal.nD Cert.FfnFirstIdeal.τ).loc Cert.FfnFirstIdeal.main_arg9))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5)
      ∧ r.2.mem ((c.tc : Thread Cert.FfnFirstRefIdeal.nD Cert.FfnFirstRefIdeal.τ).loc Cert.FfnFirstRefIdeal.main_arg6) = m ((c.tc : Thread Cert.FfnFirstRefIdeal.nD Cert.FfnFirstRefIdeal.τ).loc Cert.FfnFirstRefIdeal.main_arg6)
      ∧ r.2.mem ((c.tc : Thread Cert.FfnFirstRefIdeal.nD Cert.FfnFirstRefIdeal.τ).loc Cert.FfnFirstRefIdeal.main_arg7) = m ((c.tc : Thread Cert.FfnFirstRefIdeal.nD Cert.FfnFirstRefIdeal.τ).loc Cert.FfnFirstRefIdeal.main_arg7)
      ∧ r.2.mem ((c.tc : Thread Cert.FfnFirstRefIdeal.nD Cert.FfnFirstRefIdeal.τ).loc Cert.FfnFirstRefIdeal.main_arg8) = m ((c.tc : Thread Cert.FfnFirstRefIdeal.nD Cert.FfnFirstRefIdeal.τ).loc Cert.FfnFirstRefIdeal.main_arg8)
      ∧ r.2.mem ((c.tc : Thread Cert.FfnFirstRefIdeal.nD Cert.FfnFirstRefIdeal.τ).loc Cert.FfnFirstRefIdeal.main_arg9) = m ((c.tc : Thread Cert.FfnFirstRefIdeal.nD Cert.FfnFirstRefIdeal.τ).loc Cert.FfnFirstRefIdeal.main_arg9))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def quiescent_KvSample [hKvSample : Cert.KvSample.Facts] : Prop :=
  ∀ (m : (ℓ : Loc Cert.KvSample.nD Cert.KvSample.τ Cert.KvSample.sig) → Buf (Elt Bits) ℓ) (g : Dev Cert.KvSample.nD → PrngReg), Pre_KvSample m →
    θ_run (Cert.KvSample.defs (F := Bits)) (onTc (τ := Cert.KvSample.τ) (Cert.KvSample.main (F := Bits))) ⟨m, fun _ => 0, g⟩ (fun r => (∀ c : Dev Cert.KvSample.nD,
      r.2.mem ((c.tc : Thread Cert.KvSample.nD Cert.KvSample.τ).loc Cert.KvSample.main_arg0) = m ((c.tc : Thread Cert.KvSample.nD Cert.KvSample.τ).loc Cert.KvSample.main_arg0)
      ∧ r.2.mem ((c.tc : Thread Cert.KvSample.nD Cert.KvSample.τ).loc Cert.KvSample.main_arg1) = m ((c.tc : Thread Cert.KvSample.nD Cert.KvSample.τ).loc Cert.KvSample.main_arg1))
      ∧ r.2.sem = fun _ => 0)

def quiescent_KvSampleIdeal [hKvSampleIdeal : Cert.KvSampleIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg), Pre_KvSampleIdeal m →
    θ_run (Cert.KvSampleIdeal.defs (F := Ideal)) (onTc (τ := Cert.KvSampleIdeal.τ) (Cert.KvSampleIdeal.main (F := Ideal))) ⟨m, fun _ => 0, g⟩ (fun r => (∀ c : Dev Cert.KvSampleIdeal.nD,
      r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
      ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1))
      ∧ r.2.sem = fun _ => 0)

def quiescent_KvSampleRefIdeal [hKvSampleRefIdeal : Cert.KvSampleRefIdeal.Facts] : Prop :=
  ∀ (m : (ℓ : Loc Cert.KvSampleRefIdeal.nD Cert.KvSampleRefIdeal.τ Cert.KvSampleRefIdeal.sig) → Buf (Elt Ideal) ℓ) (g : Dev Cert.KvSampleRefIdeal.nD → PrngReg), Pre_KvSampleRefIdeal m →
    θ_run (Cert.KvSampleRefIdeal.defs (F := Ideal)) (onTc (τ := Cert.KvSampleRefIdeal.τ) (Cert.KvSampleRefIdeal.main (F := Ideal))) ⟨m, fun _ => 0, g⟩ (fun r => (∀ c : Dev Cert.KvSampleRefIdeal.nD,
      r.2.mem ((c.tc : Thread Cert.KvSampleRefIdeal.nD Cert.KvSampleRefIdeal.τ).loc Cert.KvSampleRefIdeal.main_arg0) = m ((c.tc : Thread Cert.KvSampleRefIdeal.nD Cert.KvSampleRefIdeal.τ).loc Cert.KvSampleRefIdeal.main_arg0)
      ∧ r.2.mem ((c.tc : Thread Cert.KvSampleRefIdeal.nD Cert.KvSampleRefIdeal.τ).loc Cert.KvSampleRefIdeal.main_arg1) = m ((c.tc : Thread Cert.KvSampleRefIdeal.nD Cert.KvSampleRefIdeal.τ).loc Cert.KvSampleRefIdeal.main_arg1))
      ∧ r.2.sem = fun _ => 0)

def quiescent_LastSample [hLastSample : Cert.LastSample.Facts] : Prop :=
  ∀ (m : (ℓ : Loc Cert.LastSample.nD Cert.LastSample.τ Cert.LastSample.sig) → Buf (Elt Bits) ℓ) (g : Dev Cert.LastSample.nD → PrngReg), Pre_LastSample m →
    θ_run (Cert.LastSample.defs (F := Bits)) (onTc (τ := Cert.LastSample.τ) (Cert.LastSample.main (F := Bits))) ⟨m, fun _ => 0, g⟩ (fun r => (∀ c : Dev Cert.LastSample.nD,
      r.2.mem ((c.tc : Thread Cert.LastSample.nD Cert.LastSample.τ).loc Cert.LastSample.main_arg0) = m ((c.tc : Thread Cert.LastSample.nD Cert.LastSample.τ).loc Cert.LastSample.main_arg0)
      ∧ r.2.mem ((c.tc : Thread Cert.LastSample.nD Cert.LastSample.τ).loc Cert.LastSample.main_arg1) = m ((c.tc : Thread Cert.LastSample.nD Cert.LastSample.τ).loc Cert.LastSample.main_arg1)
      ∧ r.2.mem ((c.tc : Thread Cert.LastSample.nD Cert.LastSample.τ).loc Cert.LastSample.main_arg2) = m ((c.tc : Thread Cert.LastSample.nD Cert.LastSample.τ).loc Cert.LastSample.main_arg2)
      ∧ r.2.mem ((c.tc : Thread Cert.LastSample.nD Cert.LastSample.τ).loc Cert.LastSample.main_arg3) = m ((c.tc : Thread Cert.LastSample.nD Cert.LastSample.τ).loc Cert.LastSample.main_arg3)
      ∧ r.2.mem ((c.tc : Thread Cert.LastSample.nD Cert.LastSample.τ).loc Cert.LastSample.main_arg4) = m ((c.tc : Thread Cert.LastSample.nD Cert.LastSample.τ).loc Cert.LastSample.main_arg4)
      ∧ r.2.mem ((c.tc : Thread Cert.LastSample.nD Cert.LastSample.τ).loc Cert.LastSample.main_arg5) = m ((c.tc : Thread Cert.LastSample.nD Cert.LastSample.τ).loc Cert.LastSample.main_arg5))
      ∧ r.2.sem = fun _ => 0)

def quiescent_LastSampleIdeal [hLastSampleIdeal : Cert.LastSampleIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg), Pre_LastSampleIdeal m →
    θ_run (Cert.LastSampleIdeal.defs (F := Ideal)) (onTc (τ := Cert.LastSampleIdeal.τ) (Cert.LastSampleIdeal.main (F := Ideal))) ⟨m, fun _ => 0, g⟩ (fun r => (∀ c : Dev Cert.LastSampleIdeal.nD,
      r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
      ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
      ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
      ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
      ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4)
      ∧ r.2.mem ((c.tc : Thread Cert.LastSampleIdeal.nD Cert.LastSampleIdeal.τ).loc Cert.LastSampleIdeal.main_arg5) = m ((c.tc : Thread Cert.LastSampleIdeal.nD Cert.LastSampleIdeal.τ).loc Cert.LastSampleIdeal.main_arg5))
      ∧ r.2.sem = fun _ => 0)

def quiescent_LastSampleRefIdeal [hLastSampleRefIdeal : Cert.LastSampleRefIdeal.Facts] : Prop :=
  ∀ (m : (ℓ : Loc Cert.LastSampleRefIdeal.nD Cert.LastSampleRefIdeal.τ Cert.LastSampleRefIdeal.sig) → Buf (Elt Ideal) ℓ) (g : Dev Cert.LastSampleRefIdeal.nD → PrngReg), Pre_LastSampleRefIdeal m →
    θ_run (Cert.LastSampleRefIdeal.defs (F := Ideal)) (onTc (τ := Cert.LastSampleRefIdeal.τ) (Cert.LastSampleRefIdeal.main (F := Ideal))) ⟨m, fun _ => 0, g⟩ (fun r => (∀ c : Dev Cert.LastSampleRefIdeal.nD,
      r.2.mem ((c.tc : Thread Cert.LastSampleRefIdeal.nD Cert.LastSampleRefIdeal.τ).loc Cert.LastSampleRefIdeal.main_arg0) = m ((c.tc : Thread Cert.LastSampleRefIdeal.nD Cert.LastSampleRefIdeal.τ).loc Cert.LastSampleRefIdeal.main_arg0)
      ∧ r.2.mem ((c.tc : Thread Cert.LastSampleRefIdeal.nD Cert.LastSampleRefIdeal.τ).loc Cert.LastSampleRefIdeal.main_arg1) = m ((c.tc : Thread Cert.LastSampleRefIdeal.nD Cert.LastSampleRefIdeal.τ).loc Cert.LastSampleRefIdeal.main_arg1)
      ∧ r.2.mem ((c.tc : Thread Cert.LastSampleRefIdeal.nD Cert.LastSampleRefIdeal.τ).loc Cert.LastSampleRefIdeal.main_arg2) = m ((c.tc : Thread Cert.LastSampleRefIdeal.nD Cert.LastSampleRefIdeal.τ).loc Cert.LastSampleRefIdeal.main_arg2)
      ∧ r.2.mem ((c.tc : Thread Cert.LastSampleRefIdeal.nD Cert.LastSampleRefIdeal.τ).loc Cert.LastSampleRefIdeal.main_arg3) = m ((c.tc : Thread Cert.LastSampleRefIdeal.nD Cert.LastSampleRefIdeal.τ).loc Cert.LastSampleRefIdeal.main_arg3)
      ∧ r.2.mem ((c.tc : Thread Cert.LastSampleRefIdeal.nD Cert.LastSampleRefIdeal.τ).loc Cert.LastSampleRefIdeal.main_arg4) = m ((c.tc : Thread Cert.LastSampleRefIdeal.nD Cert.LastSampleRefIdeal.τ).loc Cert.LastSampleRefIdeal.main_arg4)
      ∧ r.2.mem ((c.tc : Thread Cert.LastSampleRefIdeal.nD Cert.LastSampleRefIdeal.τ).loc Cert.LastSampleRefIdeal.main_arg5) = m ((c.tc : Thread Cert.LastSampleRefIdeal.nD Cert.LastSampleRefIdeal.τ).loc Cert.LastSampleRefIdeal.main_arg5))
      ∧ r.2.sem = fun _ => 0)

def preserves_Hgrn_HgrnIdeal : Prop :=
  True

def algebraic_HgrnIdeal_HgrnRefIdeal_pre_bounds_ok [hHgrnIdeal : Cert.HgrnIdeal.Facts] [hHgrnRefIdeal : Cert.HgrnRefIdeal.Facts] [hPre_bounds_ok : Cert.Pre_bounds_ok.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_bounds_ok m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)) →
    ∃ (v0 : (c : Dev Cert.HgrnIdeal.nD) → Buf (Elt Ideal) ((c.tc : Thread Cert.HgrnIdeal.nD Cert.HgrnIdeal.τ).loc Cert.HgrnIdeal.main_v2_0)) (v1 : (c : Dev Cert.HgrnIdeal.nD) → Buf (Elt Ideal) ((c.tc : Thread Cert.HgrnIdeal.nD Cert.HgrnIdeal.τ).loc Cert.HgrnIdeal.main_v2_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v2_0) = v0 c
          ∧ r.2.mem ((c.tc : Thread Cert.HgrnIdeal.nD Cert.HgrnIdeal.τ).loc Cert.HgrnIdeal.main_v2_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v87) = v0 c
          ∧ r.2.mem ((c.tc : Thread Cert.HgrnRefIdeal.nD Cert.HgrnRefIdeal.τ).loc Cert.HgrnRefIdeal.main_v68) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3))

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v6) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v0)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v0) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v1) = v0 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1))

def preserves_QProj_QProjIdeal : Prop :=
  True

def algebraic_QProjIdeal_QProjRefIdeal [hQProjIdeal : Cert.QProjIdeal.Facts] [hQProjRefIdeal : Cert.QProjRefIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)) →
    ∃ (v0 : (c : Dev Cert.QProjIdeal.nD) → Buf (Elt Ideal) ((c.tc : Thread Cert.QProjIdeal.nD Cert.QProjIdeal.τ).loc Cert.QProjIdeal.main_v0)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v0) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v3) = v0 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v2)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v2) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v35) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)
      ∧ m' ((c.tc : Thread Cert.FfnFirstRefIdeal.nD Cert.FfnFirstRefIdeal.τ).loc Cert.FfnFirstRefIdeal.main_arg6) = m ((c.tc : Thread Cert.FfnFirstIdeal.nD Cert.FfnFirstIdeal.τ).loc Cert.FfnFirstIdeal.main_arg6)
      ∧ m' ((c.tc : Thread Cert.FfnFirstRefIdeal.nD Cert.FfnFirstRefIdeal.τ).loc Cert.FfnFirstRefIdeal.main_arg7) = m ((c.tc : Thread Cert.FfnFirstIdeal.nD Cert.FfnFirstIdeal.τ).loc Cert.FfnFirstIdeal.main_arg7)
      ∧ m' ((c.tc : Thread Cert.FfnFirstRefIdeal.nD Cert.FfnFirstRefIdeal.τ).loc Cert.FfnFirstRefIdeal.main_arg8) = m ((c.tc : Thread Cert.FfnFirstIdeal.nD Cert.FfnFirstIdeal.τ).loc Cert.FfnFirstIdeal.main_arg8)
      ∧ m' ((c.tc : Thread Cert.FfnFirstRefIdeal.nD Cert.FfnFirstRefIdeal.τ).loc Cert.FfnFirstRefIdeal.main_arg9) = m ((c.tc : Thread Cert.FfnFirstIdeal.nD Cert.FfnFirstIdeal.τ).loc Cert.FfnFirstIdeal.main_arg9)) →
    ∃ (v0 : (c : Dev Cert.FfnFirstIdeal.nD) → Buf (Elt Ideal) ((c.tc : Thread Cert.FfnFirstIdeal.nD Cert.FfnFirstIdeal.τ).loc Cert.FfnFirstIdeal.main_v2_0)) (v1 : (c : Dev Cert.FfnFirstIdeal.nD) → Buf (Elt Ideal) ((c.tc : Thread Cert.FfnFirstIdeal.nD Cert.FfnFirstIdeal.τ).loc Cert.FfnFirstIdeal.main_v2_1)) (v2 : (c : Dev Cert.FfnFirstIdeal.nD) → Buf (Elt Ideal) ((c.tc : Thread Cert.FfnFirstIdeal.nD Cert.FfnFirstIdeal.τ).loc Cert.FfnFirstIdeal.main_v2_2)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v2_0) = v0 c
          ∧ r.2.mem ((c.tc : Thread Cert.FfnFirstIdeal.nD Cert.FfnFirstIdeal.τ).loc Cert.FfnFirstIdeal.main_v2_1) = v1 c
          ∧ r.2.mem ((c.tc : Thread Cert.FfnFirstIdeal.nD Cert.FfnFirstIdeal.τ).loc Cert.FfnFirstIdeal.main_v2_2) = v2 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
          ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6)
          ∧ r.2.mem ((c.tc : Thread Cert.FfnFirstIdeal.nD Cert.FfnFirstIdeal.τ).loc Cert.FfnFirstIdeal.main_arg7) = m ((c.tc : Thread Cert.FfnFirstIdeal.nD Cert.FfnFirstIdeal.τ).loc Cert.FfnFirstIdeal.main_arg7)
          ∧ r.2.mem ((c.tc : Thread Cert.FfnFirstIdeal.nD Cert.FfnFirstIdeal.τ).loc Cert.FfnFirstIdeal.main_arg8) = m ((c.tc : Thread Cert.FfnFirstIdeal.nD Cert.FfnFirstIdeal.τ).loc Cert.FfnFirstIdeal.main_arg8)
          ∧ r.2.mem ((c.tc : Thread Cert.FfnFirstIdeal.nD Cert.FfnFirstIdeal.τ).loc Cert.FfnFirstIdeal.main_arg9) = m ((c.tc : Thread Cert.FfnFirstIdeal.nD Cert.FfnFirstIdeal.τ).loc Cert.FfnFirstIdeal.main_arg9))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v47) = v0 c
          ∧ r.2.mem ((c.tc : Thread Cert.FfnFirstRefIdeal.nD Cert.FfnFirstRefIdeal.τ).loc Cert.FfnFirstRefIdeal.main_v49) = v1 c
          ∧ r.2.mem ((c.tc : Thread Cert.FfnFirstRefIdeal.nD Cert.FfnFirstRefIdeal.τ).loc Cert.FfnFirstRefIdeal.main_v51) = v2 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5)
          ∧ r.2.mem ((c.tc : Thread Cert.FfnFirstRefIdeal.nD Cert.FfnFirstRefIdeal.τ).loc Cert.FfnFirstRefIdeal.main_arg6) = m' ((c.tc : Thread Cert.FfnFirstRefIdeal.nD Cert.FfnFirstRefIdeal.τ).loc Cert.FfnFirstRefIdeal.main_arg6)
          ∧ r.2.mem ((c.tc : Thread Cert.FfnFirstRefIdeal.nD Cert.FfnFirstRefIdeal.τ).loc Cert.FfnFirstRefIdeal.main_arg7) = m' ((c.tc : Thread Cert.FfnFirstRefIdeal.nD Cert.FfnFirstRefIdeal.τ).loc Cert.FfnFirstRefIdeal.main_arg7)
          ∧ r.2.mem ((c.tc : Thread Cert.FfnFirstRefIdeal.nD Cert.FfnFirstRefIdeal.τ).loc Cert.FfnFirstRefIdeal.main_arg8) = m' ((c.tc : Thread Cert.FfnFirstRefIdeal.nD Cert.FfnFirstRefIdeal.τ).loc Cert.FfnFirstRefIdeal.main_arg8)
          ∧ r.2.mem ((c.tc : Thread Cert.FfnFirstRefIdeal.nD Cert.FfnFirstRefIdeal.τ).loc Cert.FfnFirstRefIdeal.main_arg9) = m' ((c.tc : Thread Cert.FfnFirstRefIdeal.nD Cert.FfnFirstRefIdeal.τ).loc Cert.FfnFirstRefIdeal.main_arg9))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v41) = v0 c
          ∧ r.2.mem ((c.tc : Thread Cert.OutProjRefIdeal.nD Cert.OutProjRefIdeal.τ).loc Cert.OutProjRefIdeal.main_v43) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7))

def preserves_KvSample_KvSampleIdeal : Prop :=
  True

def algebraic_KvSampleIdeal_KvSampleRefIdeal [hKvSampleIdeal : Cert.KvSampleIdeal.Facts] [hKvSampleRefIdeal : Cert.KvSampleRefIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg)
    (m' : (ℓ : Loc Cert.KvSampleRefIdeal.nD Cert.KvSampleRefIdeal.τ Cert.KvSampleRefIdeal.sig) → Buf (Elt Ideal) ℓ) (g' : Dev Cert.KvSampleRefIdeal.nD → PrngReg), Pre_KvSampleIdeal m →
    (∀ c : Dev Cert.KvSampleIdeal.nD,
      m' ((c.tc : Thread Cert.KvSampleRefIdeal.nD Cert.KvSampleRefIdeal.τ).loc Cert.KvSampleRefIdeal.main_arg0) = m ((c.tc : Thread Cert.KvSampleIdeal.nD Cert.KvSampleIdeal.τ).loc Cert.KvSampleIdeal.main_arg0)
      ∧ m' ((c.tc : Thread Cert.KvSampleRefIdeal.nD Cert.KvSampleRefIdeal.τ).loc Cert.KvSampleRefIdeal.main_arg1) = m ((c.tc : Thread Cert.KvSampleIdeal.nD Cert.KvSampleIdeal.τ).loc Cert.KvSampleIdeal.main_arg1)) →
    ∃ (v0 : (c : Dev Cert.KvSampleIdeal.nD) → Buf (Elt Ideal) ((c.tc : Thread Cert.KvSampleIdeal.nD Cert.KvSampleIdeal.τ).loc Cert.KvSampleIdeal.main_v0)),
      θ_run (Cert.KvSampleIdeal.defs (F := Ideal)) (onTc (τ := Cert.KvSampleIdeal.τ) (Cert.KvSampleIdeal.main (F := Ideal))) ⟨m, fun _ => 0, g⟩ (fun r => ∀ c : Dev Cert.KvSampleIdeal.nD,
          r.2.mem ((c.tc : Thread Cert.KvSampleIdeal.nD Cert.KvSampleIdeal.τ).loc Cert.KvSampleIdeal.main_v0) = v0 c
          ∧ r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
          ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1))
      ∧ θ_run (Cert.KvSampleRefIdeal.defs (F := Ideal)) (onTc (τ := Cert.KvSampleRefIdeal.τ) (Cert.KvSampleRefIdeal.main (F := Ideal))) ⟨m', fun _ => 0, g'⟩ (fun r => ∀ c : Dev Cert.KvSampleRefIdeal.nD,
          r.2.mem ((c.tc : Thread Cert.KvSampleRefIdeal.nD Cert.KvSampleRefIdeal.τ).loc Cert.KvSampleRefIdeal.main_v1) = v0 c
          ∧ r.2.mem ((c.tc : Thread Cert.KvSampleRefIdeal.nD Cert.KvSampleRefIdeal.τ).loc Cert.KvSampleRefIdeal.main_arg0) = m' ((c.tc : Thread Cert.KvSampleRefIdeal.nD Cert.KvSampleRefIdeal.τ).loc Cert.KvSampleRefIdeal.main_arg0)
          ∧ r.2.mem ((c.tc : Thread Cert.KvSampleRefIdeal.nD Cert.KvSampleRefIdeal.τ).loc Cert.KvSampleRefIdeal.main_arg1) = m' ((c.tc : Thread Cert.KvSampleRefIdeal.nD Cert.KvSampleRefIdeal.τ).loc Cert.KvSampleRefIdeal.main_arg1))

def preserves_LastSample_LastSampleIdeal : Prop :=
  True

def algebraic_LastSampleIdeal_LastSampleRefIdeal [hLastSampleIdeal : Cert.LastSampleIdeal.Facts] [hLastSampleRefIdeal : Cert.LastSampleRefIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg)
    (m' : (ℓ : Loc Cert.LastSampleRefIdeal.nD Cert.LastSampleRefIdeal.τ Cert.LastSampleRefIdeal.sig) → Buf (Elt Ideal) ℓ) (g' : Dev Cert.LastSampleRefIdeal.nD → PrngReg), Pre_LastSampleIdeal m →
    (∀ c : Dev Cert.LastSampleIdeal.nD,
      m' ((c.tc : Thread Cert.LastSampleRefIdeal.nD Cert.LastSampleRefIdeal.τ).loc Cert.LastSampleRefIdeal.main_arg0) = m ((c.tc : Thread Cert.LastSampleIdeal.nD Cert.LastSampleIdeal.τ).loc Cert.LastSampleIdeal.main_arg0)
      ∧ m' ((c.tc : Thread Cert.LastSampleRefIdeal.nD Cert.LastSampleRefIdeal.τ).loc Cert.LastSampleRefIdeal.main_arg1) = m ((c.tc : Thread Cert.LastSampleIdeal.nD Cert.LastSampleIdeal.τ).loc Cert.LastSampleIdeal.main_arg1)
      ∧ m' ((c.tc : Thread Cert.LastSampleRefIdeal.nD Cert.LastSampleRefIdeal.τ).loc Cert.LastSampleRefIdeal.main_arg2) = m ((c.tc : Thread Cert.LastSampleIdeal.nD Cert.LastSampleIdeal.τ).loc Cert.LastSampleIdeal.main_arg2)
      ∧ m' ((c.tc : Thread Cert.LastSampleRefIdeal.nD Cert.LastSampleRefIdeal.τ).loc Cert.LastSampleRefIdeal.main_arg3) = m ((c.tc : Thread Cert.LastSampleIdeal.nD Cert.LastSampleIdeal.τ).loc Cert.LastSampleIdeal.main_arg3)
      ∧ m' ((c.tc : Thread Cert.LastSampleRefIdeal.nD Cert.LastSampleRefIdeal.τ).loc Cert.LastSampleRefIdeal.main_arg4) = m ((c.tc : Thread Cert.LastSampleIdeal.nD Cert.LastSampleIdeal.τ).loc Cert.LastSampleIdeal.main_arg4)
      ∧ m' ((c.tc : Thread Cert.LastSampleRefIdeal.nD Cert.LastSampleRefIdeal.τ).loc Cert.LastSampleRefIdeal.main_arg5) = m ((c.tc : Thread Cert.LastSampleIdeal.nD Cert.LastSampleIdeal.τ).loc Cert.LastSampleIdeal.main_arg5)) →
    ∃ (v0 : (c : Dev Cert.LastSampleIdeal.nD) → Buf (Elt Ideal) ((c.tc : Thread Cert.LastSampleIdeal.nD Cert.LastSampleIdeal.τ).loc Cert.LastSampleIdeal.main_v5)),
      θ_run (Cert.LastSampleIdeal.defs (F := Ideal)) (onTc (τ := Cert.LastSampleIdeal.τ) (Cert.LastSampleIdeal.main (F := Ideal))) ⟨m, fun _ => 0, g⟩ (fun r => ∀ c : Dev Cert.LastSampleIdeal.nD,
          r.2.mem ((c.tc : Thread Cert.LastSampleIdeal.nD Cert.LastSampleIdeal.τ).loc Cert.LastSampleIdeal.main_v5) = v0 c
          ∧ r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
          ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
          ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
          ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
          ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4)
          ∧ r.2.mem ((c.tc : Thread Cert.LastSampleIdeal.nD Cert.LastSampleIdeal.τ).loc Cert.LastSampleIdeal.main_arg5) = m ((c.tc : Thread Cert.LastSampleIdeal.nD Cert.LastSampleIdeal.τ).loc Cert.LastSampleIdeal.main_arg5))
      ∧ θ_run (Cert.LastSampleRefIdeal.defs (F := Ideal)) (onTc (τ := Cert.LastSampleRefIdeal.τ) (Cert.LastSampleRefIdeal.main (F := Ideal))) ⟨m', fun _ => 0, g'⟩ (fun r => ∀ c : Dev Cert.LastSampleRefIdeal.nD,
          r.2.mem ((c.tc : Thread Cert.LastSampleRefIdeal.nD Cert.LastSampleRefIdeal.τ).loc Cert.LastSampleRefIdeal.main_v36) = v0 c
          ∧ r.2.mem ((c.tc : Thread Cert.LastSampleRefIdeal.nD Cert.LastSampleRefIdeal.τ).loc Cert.LastSampleRefIdeal.main_arg0) = m' ((c.tc : Thread Cert.LastSampleRefIdeal.nD Cert.LastSampleRefIdeal.τ).loc Cert.LastSampleRefIdeal.main_arg0)
          ∧ r.2.mem ((c.tc : Thread Cert.LastSampleRefIdeal.nD Cert.LastSampleRefIdeal.τ).loc Cert.LastSampleRefIdeal.main_arg1) = m' ((c.tc : Thread Cert.LastSampleRefIdeal.nD Cert.LastSampleRefIdeal.τ).loc Cert.LastSampleRefIdeal.main_arg1)
          ∧ r.2.mem ((c.tc : Thread Cert.LastSampleRefIdeal.nD Cert.LastSampleRefIdeal.τ).loc Cert.LastSampleRefIdeal.main_arg2) = m' ((c.tc : Thread Cert.LastSampleRefIdeal.nD Cert.LastSampleRefIdeal.τ).loc Cert.LastSampleRefIdeal.main_arg2)
          ∧ r.2.mem ((c.tc : Thread Cert.LastSampleRefIdeal.nD Cert.LastSampleRefIdeal.τ).loc Cert.LastSampleRefIdeal.main_arg3) = m' ((c.tc : Thread Cert.LastSampleRefIdeal.nD Cert.LastSampleRefIdeal.τ).loc Cert.LastSampleRefIdeal.main_arg3)
          ∧ r.2.mem ((c.tc : Thread Cert.LastSampleRefIdeal.nD Cert.LastSampleRefIdeal.τ).loc Cert.LastSampleRefIdeal.main_arg4) = m' ((c.tc : Thread Cert.LastSampleRefIdeal.nD Cert.LastSampleRefIdeal.τ).loc Cert.LastSampleRefIdeal.main_arg4)
          ∧ r.2.mem ((c.tc : Thread Cert.LastSampleRefIdeal.nD Cert.LastSampleRefIdeal.τ).loc Cert.LastSampleRefIdeal.main_arg5) = m' ((c.tc : Thread Cert.LastSampleRefIdeal.nD Cert.LastSampleRefIdeal.τ).loc Cert.LastSampleRefIdeal.main_arg5))

def Claim : Prop :=
  ∃ (hHgrn : Cert.Hgrn.Facts) (hHgrnIdeal : Cert.HgrnIdeal.Facts) (hHgrnRefIdeal : Cert.HgrnRefIdeal.Facts) (hSwiglu : Cert.Swiglu.Facts) (hSwigluIdeal : Cert.SwigluIdeal.Facts) (hSwigluRefIdeal : Cert.SwigluRefIdeal.Facts) (hInProj : Cert.InProj.Facts) (hInProjIdeal : Cert.InProjIdeal.Facts) (hInProjRefIdeal : Cert.InProjRefIdeal.Facts) (hKvProj : Cert.KvProj.Facts) (hKvProjIdeal : Cert.KvProjIdeal.Facts) (hKvProjRefIdeal : Cert.KvProjRefIdeal.Facts) (hQProj : Cert.QProj.Facts) (hQProjIdeal : Cert.QProjIdeal.Facts) (hQProjRefIdeal : Cert.QProjRefIdeal.Facts) (hFfnLast : Cert.FfnLast.Facts) (hFfnLastIdeal : Cert.FfnLastIdeal.Facts) (hFfnLastRefIdeal : Cert.FfnLastRefIdeal.Facts) (hFfnFirst : Cert.FfnFirst.Facts) (hFfnFirstIdeal : Cert.FfnFirstIdeal.Facts) (hFfnFirstRefIdeal : Cert.FfnFirstRefIdeal.Facts) (hOutProj : Cert.OutProj.Facts) (hOutProjIdeal : Cert.OutProjIdeal.Facts) (hOutProjRefIdeal : Cert.OutProjRefIdeal.Facts) (hKvSample : Cert.KvSample.Facts) (hKvSampleIdeal : Cert.KvSampleIdeal.Facts) (hKvSampleRefIdeal : Cert.KvSampleRefIdeal.Facts) (hLastSample : Cert.LastSample.Facts) (hLastSampleIdeal : Cert.LastSampleIdeal.Facts) (hLastSampleRefIdeal : Cert.LastSampleRefIdeal.Facts) (hPre_bounds_ok : Cert.Pre_bounds_ok.Facts),
    quiescent_Hgrn (hHgrn := hHgrn)
    ∧ quiescent_HgrnIdeal (hHgrnIdeal := hHgrnIdeal)
    ∧ quiescent_HgrnIdeal_pre_bounds_ok (hHgrnIdeal := hHgrnIdeal) (hPre_bounds_ok := hPre_bounds_ok)
    ∧ quiescent_HgrnRefIdeal (hHgrnRefIdeal := hHgrnRefIdeal)
    ∧ quiescent_HgrnRefIdeal_pre_bounds_ok (hHgrnRefIdeal := hHgrnRefIdeal) (hPre_bounds_ok := hPre_bounds_ok)
    ∧ quiescent_Swiglu (hSwiglu := hSwiglu)
    ∧ quiescent_SwigluIdeal (hSwigluIdeal := hSwigluIdeal)
    ∧ quiescent_SwigluRefIdeal (hSwigluRefIdeal := hSwigluRefIdeal)
    ∧ quiescent_InProj (hInProj := hInProj)
    ∧ quiescent_InProjIdeal (hInProjIdeal := hInProjIdeal)
    ∧ quiescent_InProjRefIdeal (hInProjRefIdeal := hInProjRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_QProj (hQProj := hQProj)
    ∧ quiescent_QProjIdeal (hQProjIdeal := hQProjIdeal)
    ∧ quiescent_QProjRefIdeal (hQProjRefIdeal := hQProjRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_KvSample (hKvSample := hKvSample)
    ∧ quiescent_KvSampleIdeal (hKvSampleIdeal := hKvSampleIdeal)
    ∧ quiescent_KvSampleRefIdeal (hKvSampleRefIdeal := hKvSampleRefIdeal)
    ∧ quiescent_LastSample (hLastSample := hLastSample)
    ∧ quiescent_LastSampleIdeal (hLastSampleIdeal := hLastSampleIdeal)
    ∧ quiescent_LastSampleRefIdeal (hLastSampleRefIdeal := hLastSampleRefIdeal)
    ∧ preserves_Hgrn_HgrnIdeal
    ∧ algebraic_HgrnIdeal_HgrnRefIdeal_pre_bounds_ok (hHgrnIdeal := hHgrnIdeal) (hHgrnRefIdeal := hHgrnRefIdeal) (hPre_bounds_ok := hPre_bounds_ok)
    ∧ preserves_Swiglu_SwigluIdeal
    ∧ algebraic_SwigluIdeal_SwigluRefIdeal (hSwigluIdeal := hSwigluIdeal) (hSwigluRefIdeal := hSwigluRefIdeal)
    ∧ preserves_InProj_InProjIdeal
    ∧ algebraic_InProjIdeal_InProjRefIdeal (hInProjIdeal := hInProjIdeal) (hInProjRefIdeal := hInProjRefIdeal)
    ∧ preserves_KvProj_KvProjIdeal
    ∧ algebraic_KvProjIdeal_KvProjRefIdeal (hKvProjIdeal := hKvProjIdeal) (hKvProjRefIdeal := hKvProjRefIdeal)
    ∧ preserves_QProj_QProjIdeal
    ∧ algebraic_QProjIdeal_QProjRefIdeal (hQProjIdeal := hQProjIdeal) (hQProjRefIdeal := hQProjRefIdeal)
    ∧ preserves_FfnLast_FfnLastIdeal
    ∧ algebraic_FfnLastIdeal_FfnLastRefIdeal (hFfnLastIdeal := hFfnLastIdeal) (hFfnLastRefIdeal := hFfnLastRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_OutProj_OutProjIdeal
    ∧ algebraic_OutProjIdeal_OutProjRefIdeal (hOutProjIdeal := hOutProjIdeal) (hOutProjRefIdeal := hOutProjRefIdeal)
    ∧ preserves_KvSample_KvSampleIdeal
    ∧ algebraic_KvSampleIdeal_KvSampleRefIdeal (hKvSampleIdeal := hKvSampleIdeal) (hKvSampleRefIdeal := hKvSampleRefIdeal)
    ∧ preserves_LastSample_LastSampleIdeal
    ∧ algebraic_LastSampleIdeal_LastSampleRefIdeal (hLastSampleIdeal := hLastSampleIdeal) (hLastSampleRefIdeal := hLastSampleRefIdeal)
-- ==== Pre_bounds_ok.lean ====
abbrev S256x8192 : Shape := ⟨2, ![256, 8192]⟩
abbrev S2048 : Shape := ⟨1, ![2048]⟩
abbrev S16x128 : Shape := ⟨2, ![16, 128]⟩
abbrev S32x16x128x128 : Shape := ⟨4, ![32, 16, 128, 128]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S256x8192 .f32) (main_arg1 : FVec F S2048 .f32) (main_arg2 : FVec F S16x128 .f32) (main_arg3 : FVec F S32x16x128x128 .f32) : IVec S_ 1 :=
  let main_cst : FVec F S_ .f32 := constant S_ .f32 0x00000000#32
  let main_v0 : FVec F S2048 .f32 := broadcastInDim S2048 ![] bcast_S_S2048 main_cst
  let main_v1 : IVec S2048 1 := cmpf .ogt main_arg1 main_v0
  let main_cst_0 : FVec F S_ .f32 := constant S_ .f32 0x7F800000#32
  let main_v2 : FVec F S2048 .f32 := broadcastInDim S2048 ![] bcast_S_S2048 main_cst_0
  let main_v3 : IVec S2048 1 := cmpf .olt main_arg1 main_v2
  let main_v4 : IVec S2048 1 := andi main_v1 main_v3
  let main_c : IVec S_ 1 := constantI S_ 1 1#1
  let main_v5 : IVec S_ 1 := (fun x v => Host.reduce IntOp.andi x v reducesTo_S2048_S_d0 h_S_) main_v4 main_c
  main_v5
-- ==== Hgrn.lean ====
abbrev S256x8192 : Shape := ⟨2, ![256, 8192]⟩
abbrev S2048 : Shape := ⟨1, ![2048]⟩
abbrev S16x128 : Shape := ⟨2, ![16, 128]⟩
abbrev S32x16x128x128 : Shape := ⟨4, ![32, 16, 128, 128]⟩
abbrev S96x16 : Shape := ⟨2, ![96, 16]⟩
abbrev S16x1x128 : Shape := ⟨3, ![16, 1, 128]⟩
abbrev S256x2048 : Shape := ⟨2, ![256, 2048]⟩
abbrev S8x128 : Shape := ⟨2, ![8, 128]⟩
abbrev S1x1x128 : Shape := ⟨3, ![1, 1, 128]⟩
abbrev S1x1x128x128 : Shape := ⟨4, ![1, 1, 128, 128]⟩
abbrev S128x128 : Shape := ⟨2, ![128, 128]⟩
abbrev S1x128 : Shape := ⟨2, ![1, 128]⟩
abbrev S96x128 : Shape := ⟨2, ![96, 128]⟩
abbrev S16x16 : Shape := ⟨2, ![16, 16]⟩
abbrev S16x1 : Shape := ⟨2, ![16, 1]⟩
abbrev S8 : Shape := ⟨1, ![8]⟩
abbrev S8x1 : Shape := ⟨2, ![8, 1]⟩

abbrev nBuf : Space → Nat
  | .hbm => 9
  | .vmem => 20
  | .smem => 0
  | _ => 0

abbrev bufTy : (tb : Table) → Fin (tcTables nBuf tb) → BufTy
  | .hbm, ⟨0, _⟩ => ⟨S256x8192, .f32⟩
  | .hbm, ⟨1, _⟩ => ⟨S2048, .f32⟩
  | .hbm, ⟨2, _⟩ => ⟨S16x128, .f32⟩
  | .hbm, ⟨3, _⟩ => ⟨S32x16x128x128, .f32⟩
  | .hbm, ⟨4, _⟩ => ⟨S96x16, .bf16⟩
  | .hbm, ⟨5, _⟩ => ⟨S16x1x128, .f32⟩
  | .hbm, ⟨6, _⟩ => ⟨S16x1x128, .f32⟩
  | .hbm, ⟨7, _⟩ => ⟨S256x2048, .f32⟩
  | .hbm, ⟨8, _⟩ => ⟨S32x16x128x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128x128, .f32⟩
  | .local _ .vmem, ⟨13, _⟩ => ⟨S1x1x128x128, .f32⟩
  | .local _ .vmem, ⟨14, _⟩ => ⟨S96x16, .bf16⟩
  | .local _ .vmem, ⟨15, _⟩ => ⟨S8x128, .f32⟩
  | .local _ .vmem, ⟨16, _⟩ => ⟨S8x128, .f32⟩
  | .local _ .vmem, ⟨17, _⟩ => ⟨S1x1x128x128, .f32⟩
  | .local _ .vmem, ⟨18, _⟩ => ⟨S1x1x128x128, .f32⟩
  | .local _ .vmem, ⟨19, _⟩ => ⟨S128x128, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![32, 16, 1], ![false, false, false]⟩

def k0_cond2 (i : grid0.Coords) : BitVec 1 :=
  let arg2 : BitVec 32 := BitVec.ofNat 32 (i 2).val
  let c0_i32_81 : BitVec 32 := 0#32
  let v241 : BitVec 1 := Scalar.cmpi .eq arg2 c0_i32_81
  let v242 : BitVec 32 := Scalar.extui v241
  let c0_i32_82 : BitVec 32 := 0#32
  let v243 : BitVec 1 := Scalar.cmpi .ne v242 c0_i32_82
  v243

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c48_i32 : BitVec 32 := 48#32
  let v2 : BitVec 32 := Scalar.addi c48_i32 arg1
  let c0_i32 : BitVec 32 := 0#32
  ![v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S96x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== HgrnRefIdeal.lean ====
abbrev S256x8192 : Shape := ⟨2, ![256, 8192]⟩
abbrev S2048 : Shape := ⟨1, ![2048]⟩
abbrev S16x128 : Shape := ⟨2, ![16, 128]⟩
abbrev S32x16x128x128 : Shape := ⟨4, ![32, 16, 128, 128]⟩
abbrev S32x8x8192 : Shape := ⟨3, ![32, 8, 8192]⟩
abbrev S32x8x2048 : Shape := ⟨3, ![32, 8, 2048]⟩
abbrev S_ : Shape := ⟨0, ![]⟩
abbrev S32x8x16x128 : Shape := ⟨4, ![32, 8, 16, 128]⟩
abbrev S1x1x16x128 : Shape := ⟨4, ![1, 1, 16, 128]⟩
abbrev S32x16x16x128 : Shape := ⟨4, ![32, 16, 16, 128]⟩
abbrev S16x16 : Shape := ⟨2, ![16, 16]⟩
abbrev S16x16x1 : Shape := ⟨3, ![16, 16, 1]⟩
abbrev S32x16x16x1x128 : Shape := ⟨5, ![32, 16, 16, 1, 128]⟩
abbrev S32x16x1x16x128 : Shape := ⟨5, ![32, 16, 1, 16, 128]⟩
abbrev S32x16x16x16x128 : Shape := ⟨5, ![32, 16, 16, 16, 128]⟩
abbrev S32x16x16x16 : Shape := ⟨4, ![32, 16, 16, 16]⟩
abbrev S32x16x1x128 : Shape := ⟨4, ![32, 16, 1, 128]⟩
abbrev S32x16x128 : Shape := ⟨3, ![32, 16, 128]⟩
abbrev S32x16x128x1 : Shape := ⟨4, ![32, 16, 128, 1]⟩
abbrev S32x8x16 : Shape := ⟨3, ![32, 8, 16]⟩
abbrev S32x8x16x1 : Shape := ⟨4, ![32, 8, 16, 1]⟩
abbrev S256x2048 : Shape := ⟨2, ![256, 2048]⟩

abbrev nBuf : Space → Nat
  | .hbm => 131
  | .vmem => 0
  | .smem => 0
  | _ => 0

abbrev hbmTy0_0 (i : Nat) : BufTy := match i % 128 with
  | 0 => ⟨S256x8192, .f32⟩
  | 1 => ⟨S2048, .f32⟩
  | 2 => ⟨S16x128, .f32⟩
  | 3 => ⟨S32x16x128x128, .f32⟩
  | 4 => ⟨S32x8x8192, .f32⟩
  | 5 => ⟨S32x8x2048, .f32⟩
  | 6 => ⟨S32x8x2048, .f32⟩
  | 7 => ⟨S32x8x2048, .f32⟩
  | 8 => ⟨S32x8x2048, .f32⟩
  | 9 => ⟨S16x128, .f32⟩
  | 10 => ⟨S_, .f32⟩
  | 11 => ⟨S16x128, .f32⟩
  | 12 => ⟨S16x128, .f32⟩
  | 13 => ⟨S32x8x16x128, .f32⟩
  | 14 => ⟨S32x8x16x128, .f32⟩
  | 15 => ⟨S32x8x16x128, .f32⟩
  | 16 => ⟨S_, .f32⟩
  | 17 => ⟨S32x8x16x128, .f32⟩
  | 18 => ⟨S32x8x16x128, .f32⟩
  | 19 => ⟨S_, .f32⟩
  | 20 => ⟨S32x8x16x128, .f32⟩
  | 21 => ⟨S32x8x16x128, .f32⟩
  | 22 => ⟨S1x1x16x128, .f32⟩
  | 23 => ⟨S32x8x16x128, .f32⟩
  | 24 => ⟨S32x8x16x128, .f32⟩
  | 25 => ⟨S1x1x16x128, .f32⟩
  | 26 => ⟨S32x8x16x128, .f32⟩
  | 27 => ⟨S32x8x16x128, .f32⟩
  | 28 => ⟨S32x8x16x128, .f32⟩
  | 29 => ⟨S_, .f32⟩
  | 30 => ⟨S32x8x16x128, .f32⟩
  | 31 => ⟨S32x8x16x128, .f32⟩
  | 32 => ⟨S32x8x16x128, .f32⟩
  | 33 => ⟨S32x8x16x128, .f32⟩
  | 34 => ⟨S_, .i32⟩
  | 35 => ⟨S_, .f32⟩
  | 36 => ⟨S32x16x16x128, .f32⟩
  | 37 => ⟨S32x16x16x128, .f32⟩
  | 38 => ⟨S_, .i32⟩
  | 39 => ⟨S_, .f32⟩
  | 40 => ⟨S32x16x16x128, .f32⟩
  | 41 => ⟨S32x16x16x128, .f32⟩
  | 42 => ⟨S_, .i32⟩
  | 43 => ⟨S_, .f32⟩
  | 44 => ⟨S32x16x16x128, .f32⟩
  | 45 => ⟨S32x16x16x128, .f32⟩
  | 46 => ⟨S_, .i32⟩
  | 47 => ⟨S_, .f32⟩
  | 48 => ⟨S32x16x16x128, .f32⟩
  | 49 => ⟨S32x16x16x128, .f32⟩
  | 50 => ⟨S_, .i1⟩
  | 51 => ⟨S16x16, .i1⟩
  | 52 => ⟨S16x16, .i32⟩
  | 53 => ⟨S_, .i32⟩
  | 54 => ⟨S16x16, .i32⟩
  | 55 => ⟨S16x16, .i32⟩
  | 56 => ⟨S16x16, .i32⟩
  | 57 => ⟨S16x16, .i1⟩
  | 58 => ⟨S_, .i1⟩
  | 59 => ⟨S16x16, .i1⟩
  | 60 => ⟨S16x16, .i1⟩
  | 61 => ⟨S16x16x1, .i1⟩
  | 62 => ⟨S_, .f32⟩
  | 63 => ⟨S_, .f32⟩
  | 64 => ⟨S32x16x16x128, .f32⟩
  | 65 => ⟨S32x16x16x1x128, .f32⟩
  | 66 => ⟨S32x16x1x16x128, .f32⟩
  | 67 => ⟨S32x16x16x16x128, .f32⟩
  | 68 => ⟨S32x16x16x16x128, .f32⟩
  | 69 => ⟨S32x16x16x16x128, .f32⟩
  | 70 => ⟨S_, .f32⟩
  | 71 => ⟨S_, .f32⟩
  | 72 => ⟨S32x16x16x16x128, .i1⟩
  | 73 => ⟨S32x16x16x16x128, .f32⟩
  | 74 => ⟨S32x16x16x16x128, .f32⟩
  | 75 => ⟨S32x16x16x16x128, .f32⟩
  | 76 => ⟨S32x16x16x1x128, .f32⟩
  | 77 => ⟨S32x16x1x16x128, .f32⟩
  | 78 => ⟨S32x16x16x16x128, .f32⟩
  | 79 => ⟨S32x16x16x16x128, .f32⟩
  | 80 => ⟨S32x16x16x16x128, .f32⟩
  | 81 => ⟨S32x16x16x16x128, .f32⟩
  | 82 => ⟨S_, .f32⟩
  | 83 => ⟨S32x16x16x16, .f32⟩
  | 84 => ⟨S32x16x16x128, .f32⟩
  | 85 => ⟨S32x16x16x128, .f32⟩
  | 86 => ⟨S32x16x16x128, .f32⟩
  | 87 => ⟨S32x16x16x128, .f32⟩
  | 88 => ⟨S32x16x16x128, .f32⟩
  | 89 => ⟨S32x16x1x128, .f32⟩
  | 90 => ⟨S32x16x128, .f32⟩
  | 91 => ⟨S32x16x128, .f32⟩
  | 92 => ⟨S32x16x128x1, .f32⟩
  | 93 => ⟨S32x16x128x128, .f32⟩
  | 94 => ⟨S32x16x128x128, .f32⟩
  | 95 => ⟨S32x16x16x128, .f32⟩
  | 96 => ⟨S32x16x16x128, .f32⟩
  | 97 => ⟨S32x16x16x128, .f32⟩
  | 98 => ⟨S32x16x16x128, .f32⟩
  | 99 => ⟨S32x16x128x128, .f32⟩
  | 100 => ⟨S32x16x128x128, .f32⟩
  | 101 => ⟨S32x16x16x128, .f32⟩
  | 102 => ⟨S32x8x16x128, .f32⟩
  | 103 => ⟨S32x8x16x128, .f32⟩
  | 104 => ⟨S_, .f32⟩
  | 105 => ⟨S32x8x16, .f32⟩
  | 106 => ⟨S32x8x16x1, .f32⟩
  | 107 => ⟨S_, .f32⟩
  | 108 => ⟨S32x8x16x1, .f32⟩
  | 109 => ⟨S32x8x16x1, .f32⟩
  | 110 => ⟨S_, .f32⟩
  | 111 => ⟨S32x8x16x1, .f32⟩
  | 112 => ⟨S32x8x16x1, .f32⟩
  | 113 => ⟨S32x8x16x1, .f32⟩
  | 114 => ⟨S32x8x16x128, .f32⟩
  | 115 => ⟨S32x8x16x128, .f32⟩
  | 116 => ⟨S1x1x16x128, .f32⟩
  | 117 => ⟨S32x8x16x128, .f32⟩
  | 118 => ⟨S32x8x16x128, .f32⟩
  | 119 => ⟨S32x8x2048, .f32⟩
  | 120 => ⟨S32x8x2048, .f32⟩
  | 121 => ⟨S32x8x2048, .f32⟩
  | 122 => ⟨S_, .f32⟩
  | 123 => ⟨S32x8x2048, .f32⟩
  | 124 => ⟨S32x8x2048, .f32⟩
  | 125 => ⟨S_, .f32⟩
  | 126 => ⟨S32x8x2048, .f32⟩
  | 127 => ⟨S32x8x2048, .f32⟩
  | _ => ⟨S256x8192, .f32⟩

abbrev hbmTy0_1 (i : Nat) : BufTy := match i % 128 with
  | 0 => ⟨S32x8x2048, .f32⟩
  | 1 => ⟨S32x8x2048, .f32⟩
  | 2 => ⟨S256x2048, .f32⟩
  | _ => ⟨S256x8192, .f32⟩

abbrev hbmTy (i : Nat) : BufTy := match i / 128 with
  | 0 => hbmTy0_0 i
  | 1 => hbmTy0_1 i
  | _ => ⟨S256x8192, .f32⟩

abbrev bufTy : (tb : Table) → Fin (tcTables nBuf tb) → BufTy
  | .hbm, ⟨i, _⟩ => hbmTy i
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_call0_v0 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_call1_v0 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_call2_v0 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_call3_v0 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_call4_v0 : Ref sig .tc := ⟨.hbm, 52, rfl⟩
abbrev main_call4_c : Ref sig .tc := ⟨.hbm, 53, rfl⟩
abbrev main_call4_v1 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_c_0 : Ref sig .tc := ⟨.hbm, 58, rfl⟩
abbrev main_call4_v5 : Ref sig .tc := ⟨.hbm, 59, rfl⟩
abbrev main_v35 : Ref sig .tc := ⟨.hbm, 60, rfl⟩
abbrev main_v36 : Ref sig .tc := ⟨.hbm, 61, rfl⟩
abbrev main_call5_call0_cst : Ref sig .tc := ⟨.hbm, 62, rfl⟩
abbrev main_call5_call0_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_call6_v0 : Ref sig .tc := ⟨.hbm, 71, rfl⟩
abbrev main_call6_v1 : Ref sig .tc := ⟨.hbm, 72, rfl⟩
abbrev main_call6_v2 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_9 : Ref sig .tc := ⟨.hbm, 104, rfl⟩
abbrev main_v72 : Ref sig .tc := ⟨.hbm, 105, rfl⟩
abbrev main_v73 : Ref sig .tc := ⟨.hbm, 106, rfl⟩
abbrev main_cst_10 : Ref sig .tc := ⟨.hbm, 107, rfl⟩
abbrev main_v74 : Ref sig .tc := ⟨.hbm, 108, rfl⟩
abbrev main_v75 : Ref sig .tc := ⟨.hbm, 109, rfl⟩
abbrev main_cst_11 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call7_v0 : Ref sig .tc := ⟨.hbm, 120, rfl⟩
abbrev main_call7_v1 : Ref sig .tc := ⟨.hbm, 121, rfl⟩
abbrev main_call7_cst : Ref sig .tc := ⟨.hbm, 122, rfl⟩
abbrev main_call7_v2 : Ref sig .tc := ⟨.hbm, 123, rfl⟩
abbrev main_call7_v3 : Ref sig .tc := ⟨.hbm, 124, rfl⟩
abbrev main_call7_cst_0 : Ref sig .tc := ⟨.hbm, 125, rfl⟩
abbrev main_call7_v4 : Ref sig .tc := ⟨.hbm, 126, rfl⟩
abbrev main_call7_v5 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩

abbrev nD : Nat := 1
abbrev τ : Topo := Topo.v7x

variable {F : FTy → Type} [FloatOps F]
-- ==== Swiglu.lean ====
abbrev S8192x2048 : Shape := ⟨2, ![8192, 2048]⟩
abbrev S2048x11264 : Shape := ⟨2, ![2048, 11264]⟩
abbrev S8192x5632 : Shape := ⟨2, ![8192, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluRefIdeal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S8192x2048, .f32⟩
  | .hbm, ⟨3, _⟩ => ⟨S8192x11264, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== InProj.lean ====
abbrev S8192x2048 : Shape := ⟨2, ![8192, 2048]⟩
abbrev S2048x8192 : Shape := ⟨2, ![2048, 8192]⟩
abbrev S8192x8192 : Shape := ⟨2, ![8192, 8192]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x2048 : Shape := ⟨2, ![8192, 2048]⟩
abbrev S2048x8192 : Shape := ⟨2, ![2048, 8192]⟩
abbrev S8192x8192 : Shape := ⟨2, ![8192, 8192]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .f32⟩
  | .hbm, ⟨2, _⟩ => ⟨S8192x2048, .f32⟩
  | .hbm, ⟨3, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KvProj.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvProjRefIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x2048, .f32⟩
  | .hbm, ⟨3, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QProj.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QProjRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnLast.lean ====
abbrev S8192x5632 : Shape := ⟨2, ![8192, 5632]⟩
abbrev S5632x2048 : Shape := ⟨2, ![5632, 2048]⟩
abbrev S8192x2048 : Shape := ⟨2, ![8192, 2048]⟩
abbrev S4x1x2048 : Shape := ⟨3, ![4, 1, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S4x1x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v12 : BitVec 1 := Scalar.cmpi .eq arg1 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnLastRefIdeal.lean ====
abbrev S8192x5632 : Shape := ⟨2, ![8192, 5632]⟩
abbrev S5632x2048 : Shape := ⟨2, ![5632, 2048]⟩
abbrev S8192x2048 : Shape := ⟨2, ![8192, 2048]⟩
abbrev S4x1x2048 : Shape := ⟨3, ![4, 1, 2048]⟩
abbrev S2048 : Shape := ⟨1, ![2048]⟩
abbrev S4x2048x5632 : Shape := ⟨3, ![4, 2048, 5632]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S4x1x2048, .f32⟩
  | .hbm, ⟨4, _⟩ => ⟨S2048, .f32⟩
  | .hbm, ⟨5, _⟩ => ⟨S2048, .f32⟩
  | .hbm, ⟨6, _⟩ => ⟨S4x2048x5632, .bf16⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x1x2048, .f32⟩
  | .hbm, ⟨13, _⟩ => ⟨S4x1x2048, .f32⟩
  | .hbm, ⟨14, _⟩ => ⟨S4x2048x5632, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S1x1x2048, .f32⟩
  | .hbm, ⟨43, _⟩ => ⟨S4x2048x2048, .f32⟩
  | .hbm, ⟨44, _⟩ => ⟨S4x2048x2048, .f32⟩
  | .hbm, ⟨45, _⟩ => ⟨S1x1x2048, .f32⟩
  | .hbm, ⟨46, _⟩ => ⟨S4x2048x2048, .f32⟩
  | .hbm, ⟨47, _⟩ => ⟨S4x2048x2048, .f32⟩
  | .hbm, ⟨48, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== FfnFirst.lean ====
abbrev S8192x5632 : Shape := ⟨2, ![8192, 5632]⟩
abbrev S5632x2048 : Shape := ⟨2, ![5632, 2048]⟩
abbrev S8192x2048 : Shape := ⟨2, ![8192, 2048]⟩
abbrev S4x1x2048 : Shape := ⟨3, ![4, 1, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 15
  | .vmem => 25
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S4x1x2048, .f32⟩
  | .hbm, ⟨4, _⟩ => ⟨S2048, .f32⟩
  | .hbm, ⟨5, _⟩ => ⟨S2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S1x2048, .f32⟩
  | .hbm, ⟨11, _⟩ => ⟨S1x2048, .f32⟩
  | .hbm, ⟨12, _⟩ => ⟨S8192x2048, .f32⟩
  | .hbm, ⟨13, _⟩ => ⟨S8192x2048, .bf16⟩
  | .hbm, ⟨14, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S512x2048, .bf16⟩
  | .local _ .vmem, ⟨24, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v12 : BitVec 1 := Scalar.cmpi .eq arg1 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== FfnFirstRefIdeal.lean ====
abbrev S8192x5632 : Shape := ⟨2, ![8192, 5632]⟩
abbrev S5632x2048 : Shape := ⟨2, ![5632, 2048]⟩
abbrev S8192x2048 : Shape := ⟨2, ![8192, 2048]⟩
abbrev S4x1x2048 : Shape := ⟨3, ![4, 1, 2048]⟩
abbrev S2048 : Shape := ⟨1, ![2048]⟩
abbrev S4x2048x5632 : Shape := ⟨3, ![4, 2048, 5632]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S4x1x2048, .f32⟩
  | .hbm, ⟨4, _⟩ => ⟨S2048, .f32⟩
  | .hbm, ⟨5, _⟩ => ⟨S2048, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x2048x5632, .bf16⟩
  | .hbm, ⟨11, _⟩ => ⟨S4x2048x2048, .f32⟩
  | .hbm, ⟨12, _⟩ => ⟨S_, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x1x2048, .f32⟩
  | .hbm, ⟨17, _⟩ => ⟨S4x1x2048, .f32⟩
  | .hbm, ⟨18, _⟩ => ⟨S4x2048x5632, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S4x2048x1, .f32⟩
  | .hbm, ⟨44, _⟩ => ⟨S4x2048x2048, .f32⟩
  | .hbm, ⟨45, _⟩ => ⟨S4x2048x2048, .f32⟩
  | .hbm, ⟨46, _⟩ => ⟨S1x1x2048, .f32⟩
  | .hbm, ⟨47, _⟩ => ⟨S4x2048x2048, .f32⟩
  | .hbm, ⟨48, _⟩ => ⟨S4x2048x2048, .f32⟩
  | .hbm, ⟨49, _⟩ => ⟨S1x1x2048, .f32⟩
  | .hbm, ⟨50, _⟩ => ⟨S4x2048x2048, .f32⟩
  | .hbm, ⟨51, _⟩ => ⟨S4x2048x2048, .f32⟩
  | .hbm, ⟨52, _⟩ => ⟨S_, .f32⟩
  | .hbm, ⟨53, _⟩ => ⟨S4x1x2048, .f32⟩
  | .hbm, ⟨54, _⟩ => ⟨S4x1x2048, .f32⟩
  | .hbm, ⟨55, _⟩ => ⟨S4x2048x2048, .f32⟩
  | .hbm, ⟨56, _⟩ => ⟨S4x2048x2048, .f32⟩
  | .hbm, ⟨57, _⟩ => ⟨S4x2048x2048, .f32⟩
  | .hbm, ⟨58, _⟩ => ⟨S4x2048x2048, .f32⟩
  | .hbm, ⟨59, _⟩ => ⟨S_, .f32⟩
  | .hbm, ⟨60, _⟩ => ⟨S4x1x2048, .f32⟩
  | .hbm, ⟨61, _⟩ => ⟨S4x1x2048, .f32⟩
  | .hbm, ⟨62, _⟩ => ⟨S4x2048x2048, .f32⟩
  | .hbm, ⟨63, _⟩ => ⟨S4x2048x2048, .f32⟩
  | .hbm, ⟨64, _⟩ => ⟨S4x2048x2048, .f32⟩
  | .hbm, ⟨65, _⟩ => ⟨S4x2048x2048, .f32⟩
  | .hbm, ⟨66, _⟩ => ⟨S8192x2048, .f32⟩
  | .hbm, ⟨67, _⟩ => ⟨S8192x2048, .f32⟩
  | .hbm, ⟨68, _⟩ => ⟨S8192x2048, .bf16⟩
  | .hbm, ⟨69, _⟩ => ⟨S8192x2048, .f32⟩
  | .hbm, ⟨70, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S4x1x2048 : Shape := ⟨3, ![4, 1, 2048]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 12
  | .vmem => 19
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S4x1x2048, .f32⟩
  | .hbm, ⟨4, _⟩ => ⟨S2048, .f32⟩
  | .hbm, ⟨5, _⟩ => ⟨S2048, .f32⟩
  | .hbm, ⟨6, _⟩ => ⟨S4x1x2048, .f32⟩
  | .hbm, ⟨7, _⟩ => ⟨S4x1x2048, .f32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | .local _ .vmem, ⟨18, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== OutProjRefIdeal.lean ====
abbrev S8192x2048 : Shape := ⟨2, ![8192, 2048]⟩
abbrev S2048x2048 : Shape := ⟨2, ![2048, 2048]⟩
abbrev S4x1x2048 : Shape := ⟨3, ![4, 1, 2048]⟩
abbrev S2048 : Shape := ⟨1, ![2048]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S4x1x2048, .f32⟩
  | .hbm, ⟨4, _⟩ => ⟨S2048, .f32⟩
  | .hbm, ⟨5, _⟩ => ⟨S2048, .f32⟩
  | .hbm, ⟨6, _⟩ => ⟨S4x1x2048, .f32⟩
  | .hbm, ⟨7, _⟩ => ⟨S4x1x2048, .f32⟩
  | .hbm, ⟨8, _⟩ => ⟨S4x2048x2048, .bf16⟩
  | .hbm, ⟨9, _⟩ => ⟨S4x2048x2048, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x1x2048, .f32⟩
  | .hbm, ⟨15, _⟩ => ⟨S4x1x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S4x2048x1, .f32⟩
  | .hbm, ⟨42, _⟩ => ⟨S4x2048x2048, .f32⟩
  | .hbm, ⟨43, _⟩ => ⟨S4x2048x2048, .f32⟩
  | .hbm, ⟨44, _⟩ => ⟨S1x1x2048, .f32⟩
  | .hbm, ⟨45, _⟩ => ⟨S4x2048x2048, .f32⟩
  | .hbm, ⟨46, _⟩ => ⟨S4x2048x2048, .f32⟩
  | .hbm, ⟨47, _⟩ => ⟨S1x1x2048, .f32⟩
  | .hbm, ⟨48, _⟩ => ⟨S4x2048x2048, .f32⟩
  | .hbm, ⟨49, _⟩ => ⟨S4x2048x2048, .f32⟩
  | .hbm, ⟨50, _⟩ => ⟨S_, .f32⟩
  | .hbm, ⟨51, _⟩ => ⟨S4x1x2048, .f32⟩
  | .hbm, ⟨52, _⟩ => ⟨S4x1x2048, .f32⟩
  | .hbm, ⟨53, _⟩ => ⟨S4x2048x2048, .f32⟩
  | .hbm, ⟨54, _⟩ => ⟨S4x2048x2048, .f32⟩
  | .hbm, ⟨55, _⟩ => ⟨S4x2048x2048, .f32⟩
  | .hbm, ⟨56, _⟩ => ⟨S4x2048x2048, .f32⟩
  | .hbm, ⟨57, _⟩ => ⟨S8192x2048, .f32⟩
  | .hbm, ⟨58, _⟩ => ⟨S8192x2048, .f32⟩
  | .hbm, ⟨59, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== KvSample.lean ====
abbrev S256x2048 : Shape := ⟨2, ![256, 2048]⟩
abbrev S2048x4096 : Shape := ⟨2, ![2048, 4096]⟩
abbrev S256x4096 : Shape := ⟨2, ![256, 4096]⟩
abbrev S2048x512 : Shape := ⟨2, ![2048, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S2048x4096, .f32⟩
  | .hbm, ⟨2, _⟩ => ⟨S256x4096, .f32⟩
  | .local _ .vmem, ⟨0, _⟩ => ⟨S256x2048, .bf16⟩
  | .local _ .vmem, ⟨1, _⟩ => ⟨S2048x512, .f32⟩
  | .local _ .vmem, ⟨2, _⟩ => ⟨S2048x512, .f32⟩
  | .local _ .vmem, ⟨3, _⟩ => ⟨S256x512, .f32⟩
  | .local _ .vmem, ⟨4, _⟩ => ⟨S256x512, .f32⟩
  | .local _ .vmem, ⟨5, _⟩ => ⟨S2048x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvSampleRefIdeal.lean ====
abbrev S256x2048 : Shape := ⟨2, ![256, 2048]⟩
abbrev S2048x4096 : Shape := ⟨2, ![2048, 4096]⟩
abbrev S256x4096 : Shape := ⟨2, ![256, 4096]⟩

abbrev nBuf : Space → Nat
  | .hbm => 4
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x4096, .f32⟩
  | .hbm, ⟨2, _⟩ => ⟨S256x2048, .f32⟩
  | .hbm, ⟨3, _⟩ => ⟨S256x4096, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== LastSample.lean ====
abbrev S256x5632 : Shape := ⟨2, ![256, 5632]⟩
abbrev S5632x2048 : Shape := ⟨2, ![5632, 2048]⟩
abbrev S256x2048 : Shape := ⟨2, ![256, 2048]⟩
abbrev S32x2048 : Shape := ⟨2, ![32, 2048]⟩
abbrev S2048 : Shape := ⟨1, ![2048]⟩
abbrev S32x8x2048 : Shape := ⟨3, ![32, 8, 2048]⟩
abbrev S1x256x2048 : Shape := ⟨3, ![1, 256, 2048]⟩
abbrev S1x2048 : Shape := ⟨2, ![1, 2048]⟩
abbrev S256x512 : Shape := ⟨2, ![256, 512]⟩
abbrev S512x2048 : Shape := ⟨2, ![512, 2048]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S256x5632, .bf16⟩
  | .hbm, ⟨1, _⟩ => ⟨S5632x2048, .f32⟩
  | .hbm, ⟨2, _⟩ => ⟨S256x2048, .f32⟩
  | .hbm, ⟨3, _⟩ => ⟨S32x2048, .f32⟩
  | .hbm, ⟨4, _⟩ => ⟨S2048, .f32⟩
  | .hbm, ⟨5, _⟩ => ⟨S2048, .f32⟩
  | .hbm, ⟨6, _⟩ => ⟨S32x8x2048, .f32⟩
  | .hbm, ⟨7, _⟩ => ⟨S256x2048, .f32⟩
  | .hbm, ⟨8, _⟩ => ⟨S1x256x2048, .f32⟩
  | .hbm, ⟨9, _⟩ => ⟨S1x2048, .f32⟩
  | .hbm, ⟨10, _⟩ => ⟨S1x2048, .f32⟩
  | .hbm, ⟨11, _⟩ => ⟨S256x2048, .f32⟩
  | .local _ .vmem, ⟨0, _⟩ => ⟨S256x512, .bf16⟩
  | .local _ .vmem, ⟨1, _⟩ => ⟨S256x512, .bf16⟩
  | .local _ .vmem, ⟨2, _⟩ => ⟨S512x2048, .f32⟩
  | .local _ .vmem, ⟨3, _⟩ => ⟨S512x2048, .f32⟩
  | .local _ .vmem, ⟨4, _⟩ => ⟨S256x2048, .f32⟩
  | .local _ .vmem, ⟨5, _⟩ => ⟨S1x256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v12 : BitVec 1 := Scalar.cmpi .eq arg1 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== LastSampleRefIdeal.lean ====
abbrev S256x5632 : Shape := ⟨2, ![256, 5632]⟩
abbrev S5632x2048 : Shape := ⟨2, ![5632, 2048]⟩
abbrev S256x2048 : Shape := ⟨2, ![256, 2048]⟩
abbrev S32x2048 : Shape := ⟨2, ![32, 2048]⟩
abbrev S2048 : Shape := ⟨1, ![2048]⟩
abbrev S32x8x5632 : Shape := ⟨3, ![32, 8, 5632]⟩
abbrev S32x8x2048 : Shape := ⟨3, ![32, 8, 2048]⟩
abbrev S_ : Shape := ⟨0, ![]⟩
abbrev S32x1x2048 : Shape := ⟨3, ![32, 1, 2048]⟩
abbrev S32x8 : Shape := ⟨2, ![32, 8]⟩
abbrev S32x8x1 : Shape := ⟨3, ![32, 8, 1]⟩
abbrev S1x1x2048 : Shape := ⟨3, ![1, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S256x5632, .bf16⟩
  | .hbm, ⟨1, _⟩ => ⟨S5632x2048, .f32⟩
  | .hbm, ⟨2, _⟩ => ⟨S256x2048, .f32⟩
  | .hbm, ⟨3, _⟩ => ⟨S32x2048, .f32⟩
  | .hbm, ⟨4, _⟩ => ⟨S2048, .f32⟩
  | .hbm, ⟨5, _⟩ => ⟨S2048, .f32⟩
  | .hbm, ⟨6, _⟩ => ⟨S32x8x5632, .bf16⟩
  | .hbm, ⟨7, _⟩ => ⟨S32x8x2048, .f32⟩
  | .hbm, ⟨8, _⟩ => ⟨S_, .f32⟩
  | .hbm, ⟨9, _⟩ => ⟨S32x8x2048, .f32⟩
  | .hbm, ⟨10, _⟩ => ⟨S32x8x2048, .f32⟩
  | .hbm, ⟨11, _⟩ => ⟨S32x1x2048, .f32⟩
  | .hbm, ⟨12, _⟩ => ⟨S_, .f32⟩
  | .hbm, ⟨13, _⟩ => ⟨S32x1x2048, .f32⟩
  | .hbm, ⟨14, _⟩ => ⟨S32x1x2048, .f32⟩
  | .hbm, ⟨15, _⟩ => ⟨S32x8x5632, .f32⟩
  | .hbm, ⟨16, _⟩ => ⟨S32x8x2048, .f32⟩
  | .hbm, ⟨17, _⟩ => ⟨S32x8x2048, .f32⟩
  | .hbm, ⟨18, _⟩ => ⟨S32x8x2048, .f32⟩
  | .hbm, ⟨19, _⟩ => ⟨S32x8x2048, .f32⟩
  | .hbm, ⟨20, _⟩ => ⟨S_, .f32⟩
  | .hbm, ⟨21, _⟩ => ⟨S32x8, .f32⟩
  | .hbm, ⟨22, _⟩ => ⟨S32x8x1, .f32⟩
  | .hbm, ⟨23, _⟩ => ⟨S_, .f32⟩
  | .hbm, ⟨24, _⟩ => ⟨S32x8x1, .f32⟩
  | .hbm, ⟨25, _⟩ => ⟨S32x8x1, .f32⟩
  | .hbm, ⟨26, _⟩ => ⟨S32x8x2048, .f32⟩
  | .hbm, ⟨27, _⟩ => ⟨S32x8x2048, .f32⟩
  | .hbm, ⟨28, _⟩ => ⟨S32x8x2048, .f32⟩
  | .hbm, ⟨29, _⟩ => ⟨S_, .f32⟩
  | .hbm, ⟨30, _⟩ => ⟨S32x8, .f32⟩
  | .hbm, ⟨31, _⟩ => ⟨S32x8x1, .f32⟩
  | .hbm, ⟨32, _⟩ => ⟨S_, .f32⟩
  | .hbm, ⟨33, _⟩ => ⟨S32x8x1, .f32⟩
  | .hbm, ⟨34, _⟩ => ⟨S32x8x1, .f32⟩
  | .hbm, ⟨35, _⟩ => ⟨S32x8x2048, .f32⟩
  | .hbm, ⟨36, _⟩ => ⟨S32x8x2048, .f32⟩
  | .hbm, ⟨37, _⟩ => ⟨S_, .f32⟩
  | .hbm, ⟨38, _⟩ => ⟨S32x8x1, .f32⟩
  | .hbm, ⟨39, _⟩ => ⟨S32x8x1, .f32⟩
  | .hbm, ⟨40, _⟩ => ⟨S32x8x1, .f32⟩
  | .hbm, ⟨41, _⟩ => ⟨S32x8x2048, .f32⟩
  | .hbm, ⟨42, _⟩ => ⟨S32x8x2048, .f32⟩
  | .hbm, ⟨43, _⟩ => ⟨S1x1x2048, .f32⟩
  | .hbm, ⟨44, _⟩ => ⟨S32x8x2048, .f32⟩
  | .hbm, ⟨45, _⟩ => ⟨S32x8x2048, .f32⟩
  | .hbm, ⟨46, _⟩ => ⟨S1x1x2048, .f32⟩
  | .hbm, ⟨47, _⟩ => ⟨S32x8x2048, .f32⟩
  | .hbm, ⟨48, _⟩ => ⟨S32x8x2048, .f32⟩
  | .hbm, ⟨49, _⟩ => ⟨S256x2048, .f32⟩
  | _, _ => ⟨S256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Proof.HgrnMath.lean ====
module

public import Idealize.ShloMosaic.Lib.Pointwise

@[expose] public section

set_option maxRecDepth 16384

/-!
# The chunk's mathematics

Over one chunk of sixteen rows the recurrence needs the running sums of the logarithms of the forget gate. The kernel
takes them, and the differences of two of them, as products with one table of zeros and ones; and it forms the
attention between two different rows at the one of four levels of halving at which the two rows part. The modules
before the comparison only say what the two programs compute; the equalities between the two are here.
-/

noncomputable section

namespace Cert.Hg

open Idealize.ShloMosaic

/-- The sum of the rows up to and with row `t`. -/
def cum (lf : Fin 16 → EReal) (t : Fin 16) : EReal := ∑ r : Fin 16, if r ≤ t then lf r else 0

/-- The bit of row `t` at level `lv`. -/
abbrev odd (lv t : ℕ) : Prop := (t / 2 ^ lv) % 2 = 1

/-- Rows `t` and `s` part at level `lv`, `t` in the later half. -/
abbrev pair (lv t s : ℕ) : Prop := t / 2 ^ (lv + 1) = s / 2 ^ (lv + 1) ∧ odd lv t ∧ ¬ odd lv s

/-- Whether the table holds a one in row `R` and column `r`: rows 0 to 15 sum the rows up to their own, rows 16 to 31
    the rows after it, and each further sixteen, one level's, the rows between their own and the middle of the level's
    block. -/
def inRow (R r : ℕ) : Prop :=
  if R < 16 then r ≤ R
  else if R < 32 then R - 16 < r
  else if odd (R / 16 - 2) (R % 16) then
    (R % 16) / 2 ^ (R / 16 - 2) * 2 ^ (R / 16 - 2) ≤ r ∧ r ≤ R % 16
  else R % 16 < r ∧ r < (R % 16) / 2 ^ (R / 16 - 2) * 2 ^ (R / 16 - 2) + 2 ^ (R / 16 - 2)

instance (R r : ℕ) : Decidable (inRow R r) := by unfold inRow; infer_instance

theorem inRow_low : ∀ t r : Fin 16, inRow t r ↔ r ≤ t := by decide +kernel

theorem inRow_suf : ∀ t r : Fin 16,
    ((if inRow (16 + t) r then 1 else 0 : ℤ) + if False then 1 else 0)
      = (if r ≤ 15 then 1 else 0) - if r ≤ t then 1 else 0 := by decide +kernel

/-- One row of the table times the rows: in three parts, of which the last two multiply what rounding to the narrower
    format leaves. -/
def tabSum (lf : Fin 16 → EReal) (R : ℕ) : EReal :=
  ((∑ r : Fin 16, (if inRow R r then (1 : EReal) else 0) * lf r)
    + ∑ r : Fin 16, (if inRow R r then (1 : EReal) else 0) * (lf r - lf r))
    + ∑ r : Fin 16, (if inRow R r then (1 : EReal) else 0) * (lf r - lf r - (lf r - lf r))

theorem coe_sum {n : ℕ} (f : Fin n → ℝ) : ((∑ r, f r : ℝ) : EReal) = ∑ r, (f r : EReal) :=
  map_sum (⟨⟨Real.toEReal, EReal.coe_zero⟩, EReal.coe_add⟩ : ℝ →+ EReal) f Finset.univ

/-- The sum of the entries of `x` at the columns where `P` holds. -/
def part (x : Fin 16 → ℝ) (P : Fin 16 → Prop) [DecidablePred P] : ℝ := ∑ r, if P r then x r else 0

theorem cum_real {lf : Fin 16 → EReal} {x : Fin 16 → ℝ} (h : ∀ r, lf r = x r) (t : Fin 16) :
    cum lf t = (part x fun r => r ≤ t : ℝ) := by
  unfold cum part
  rw [coe_sum]
  refine Finset.sum_congr rfl fun r _ => ?_
  split <;> simp [h]

theorem tabSum_real {lf : Fin 16 → EReal} {x : Fin 16 → ℝ} (h : ∀ r, lf r = x r) (R : ℕ) :
    tabSum lf R = (part x fun r => inRow R r : ℝ) := by
  have h0 : ∀ r, lf r - lf r = 0 := fun r => by rw [h]; exact_mod_cast sub_self (x r)
  unfold tabSum part
  simp only [h0, sub_zero, mul_zero, Finset.sum_const_zero, add_zero]
  rw [coe_sum]
  refine Finset.sum_congr rfl fun r _ => ?_
  split <;> simp [h]

/-- The table's first rows: the running sum. -/
theorem tabSum_low {lf : Fin 16 → EReal} {x : Fin 16 → ℝ} (h : ∀ r, lf r = x r) (t : Fin 16) :
    tabSum lf t = cum lf t := by
  rw [tabSum_real h, cum_real h]
  congr 1
  refine Finset.sum_congr rfl fun r _ => ?_
  simp only [inRow_low t r]

theorem part_split (x : Fin 16 → ℝ) (P Q R S : Fin 16 → Prop) [DecidablePred P] [DecidablePred Q] [DecidablePred R]
    [DecidablePred S]
    (h : ∀ r, ((if P r then 1 else 0 : ℤ) + if Q r then 1 else 0) = (if R r then 1 else 0) - if S r then 1 else 0) :
    part x P + part x Q = part x R - part x S := by
  unfold part
  rw [← Finset.sum_add_distrib, ← Finset.sum_sub_distrib]
  refine Finset.sum_congr rfl fun r _ => ?_
  have := h r
  split_ifs at this ⊢ <;> simp_all

/-- The table's second rows: the sum of the rows after `t`. -/
theorem tabSum_suf {lf : Fin 16 → EReal} {x : Fin 16 → ℝ} (h : ∀ r, lf r = x r) (t : Fin 16) :
    tabSum lf (16 + t) = cum lf 15 - cum lf t := by
  rw [tabSum_real h, cum_real h, cum_real h, ← EReal.coe_sub]
  congr 1
  rw [← part_split x (fun r => inRow (16 + t) r) (fun _ => False) _ _ (inRow_suf t)]
  simp [part]

theorem pair_rows : ∀ (lv : Fin 4) (t s : Fin 16), pair lv t s → ∀ r : Fin 16,
    ((if inRow (32 + 16 * lv + t) r then 1 else 0 : ℤ) + if inRow (32 + 16 * lv + s) r then 1 else 0)
      = (if r ≤ t then 1 else 0) - if r ≤ s then 1 else 0 := by decide +kernel

/-- At the level where two rows part the two rows of the table add up to the rows between the two. -/
theorem tabSum_pair {lf : Fin 16 → EReal} {x : Fin 16 → ℝ} (h : ∀ r, lf r = x r) {lv : Fin 4} {t s : Fin 16}
    (hp : pair lv t s) :
    Ideal.exp (tabSum lf (32 + 16 * lv + t)) * Ideal.exp (tabSum lf (32 + 16 * lv + s))
      = Ideal.exp (cum lf t - cum lf s) := by
  rw [tabSum_real h, tabSum_real h, cum_real h, cum_real h, ← EReal.coe_sub, Ideal.exp_coe, Ideal.exp_coe,
    Ideal.exp_coe, ← EReal.coe_mul, ← Real.exp_add, part_split x _ _ _ _ (pair_rows lv t s hp)]

/-- Every two rows: the same, or the second the later, or they part at exactly one level. -/
theorem rows_cases : ∀ t s : Fin 16,
    (s = t ∧ ∀ lv : Fin 4, ¬ pair lv t s) ∨ (¬ s ≤ t ∧ ∀ lv : Fin 4, ¬ pair lv t s)
      ∨ (s ≠ t ∧ s ≤ t ∧ ∃ lv : Fin 4, pair lv t s ∧ ∀ l : Fin 4, l ≠ lv → ¬ pair l t s) := by decide +kernel

/-- One level's part of the attention between rows `t` and `s`, from the table's sums `E`. -/
def level (q k : Fin 16 → Fin 128 → EReal) (E : ℕ → Fin 128 → EReal) (lv : Fin 4) (t s : Fin 16) : EReal :=
  if pair lv t s then
    ∑ d : Fin 128, q t d * Ideal.exp (E (32 + 16 * lv + t) d) * (k s d * Ideal.exp (E (32 + 16 * lv + s) d))
  else 0

/-- The attention as the kernel forms it: the diagonal and the four levels. -/
def attnK (q k : Fin 16 → Fin 128 → EReal) (E : ℕ → Fin 128 → EReal) (t s : Fin 16) : EReal :=
  ((((if t = s then ∑ d : Fin 128, q t d * k s d else 0) + level q k E 0 t s) + level q k E 1 t s)
    + level q k E 2 t s) + level q k E 3 t s

/-- The attention: what the rows between `s` and `t` leave of the key. -/
def attnR (q k lf : Fin 16 → Fin 128 → EReal) (t s : Fin 16) : EReal :=
  ∑ d : Fin 128, q t d * k s d
    * Ideal.exp (if s ≤ t then cum (fun r => lf r d) t - cum (fun r => lf r d) s else ⊥)

/-- The table times the rows' columns. -/
def tab (lf : Fin 16 → Fin 128 → EReal) (R : ℕ) (d : Fin 128) : EReal := tabSum (fun r => lf r d) R

section

variable (q k : Fin 16 → Fin 128 → EReal)

theorem level_none (E : ℕ → Fin 128 → EReal) {lv : Fin 4} {t s : Fin 16} (h : ¬ pair lv t s) :
    level q k E lv t s = 0 := if_neg h

variable {lf : Fin 16 → Fin 128 → EReal}

theorem level_pair {x : Fin 16 → Fin 128 → ℝ} (hx : ∀ r d, lf r d = x r d) {lv : Fin 4} {t s : Fin 16}
    (h : pair lv t s) (hle : s ≤ t) : level q k (tab lf) lv t s = attnR q k lf t s := by
  unfold level attnR
  rw [if_pos h]
  refine Finset.sum_congr rfl fun d _ => ?_
  rw [if_pos hle, ← tabSum_pair (fun r => hx r d) h]
  unfold tab
  ac_rfl

/-- The two forms of the attention agree where the logarithms of the forget gate are finite. -/
theorem attnK_eq {x : Fin 16 → Fin 128 → ℝ} (hx : ∀ r d, lf r d = x r d) (t s : Fin 16) :
    attnK q k (tab lf) t s = attnR q k lf t s := by
  rcases rows_cases t s with ⟨rfl, h⟩ | ⟨hlt, h⟩ | ⟨hne, hle, lv, hp, h⟩
  · unfold attnK attnR
    simp only [level_none q k _ (h _), if_true, le_refl, add_zero]
    refine Finset.sum_congr rfl fun d _ => ?_
    rw [cum_real (fun r => hx r d), ← EReal.coe_sub, sub_self, Ideal.exp_coe]
    simp
  · unfold attnK attnR
    have hne : t ≠ s := fun e => hlt (e ▸ le_refl _)
    simp [level_none q k _ (h _), hlt, hne]
  · rw [← level_pair q k hx hp hle]
    unfold attnK
    rw [if_neg (Ne.symm hne)]
    have n : ∀ l : Fin 4, l ≠ lv → level q k (tab lf) l t s = 0 := fun l hl => level_none q k _ (h l hl)
    fin_cases lv
    · rw [n 1 (by decide), n 2 (by decide), n 3 (by decide)]; simp
    · rw [n 0 (by decide), n 2 (by decide), n 3 (by decide)]; simp
    · rw [n 0 (by decide), n 1 (by decide), n 3 (by decide)]; simp
    · rw [n 0 (by decide), n 1 (by decide), n 2 (by decide)]; simp

end

/-! ## The chunk -/

/-- Eight rows with eight rows of zeros after them. -/
def padded (a : Fin 8 → Fin 128 → EReal) (t : Fin 16) (d : Fin 128) : EReal := if h : t.val < 8 then a ⟨t.val, h⟩ d else 0

/-- The forget gate over its lower bound. -/
def gate (lb z : EReal) : EReal := lb + (1 - lb) * Ideal.logistic z

/-- The logarithms of the forget gate, padded. -/
def lfs (lb : Fin 128 → EReal) (f : Fin 8 → Fin 128 → EReal) : Fin 16 → Fin 128 → EReal :=
  padded fun t d => Ideal.log (gate (lb d) (f t d))

/-- The keys, padded. -/
def keys (lb : Fin 128 → EReal) (f : Fin 8 → Fin 128 → EReal) : Fin 16 → Fin 128 → EReal :=
  padded fun t d => 1 - gate (lb d) (f t d)

section

variable (lb : Fin 128 → EReal) (q f v : Fin 8 → Fin 128 → EReal) (S : Fin 128 → Fin 128 → EReal)

/-- The chunk's outputs before the norm, as the kernel forms them. -/
def outK (t : Fin 16) (e : Fin 128) : EReal :=
  (∑ d : Fin 128, padded q t d * Ideal.exp (tab (lfs lb f) t d) * S d e)
    + ∑ s : Fin 16, attnK (padded q) (keys lb f) (tab (lfs lb f)) t s * padded v s e

/-- The chunk's outputs before the norm. -/
def outR (t : Fin 16) (e : Fin 128) : EReal :=
  (∑ d : Fin 128, padded q t d * Ideal.exp (cum (fun r => lfs lb f r d) t) * S d e)
    + ∑ s : Fin 16, attnR (padded q) (keys lb f) (lfs lb f) t s * padded v s e

/-- The state after the chunk, as the kernel forms it. -/
def stateK (d e : Fin 128) : EReal :=
  Ideal.exp (tab (lfs lb f) 15 d) * S d e
    + ∑ s : Fin 16, padded v s e * (keys lb f s d * Ideal.exp (tab (lfs lb f) (16 + s) d))

/-- The state after the chunk. -/
def stateR (d e : Fin 128) : EReal :=
  Ideal.exp (cum (fun r => lfs lb f r d) 15) * S d e
    + ∑ s : Fin 16, keys lb f s d * Ideal.exp (cum (fun r => lfs lb f r d) 15 - cum (fun r => lfs lb f r d) s) * padded v s e

/-- A forget gate over a positive finite lower bound is a positive real number, so its logarithm is finite. -/
theorem log_gate {lb z : EReal} (h0 : 0 < lb) (h1 : lb < ⊤) : ∃ x : ℝ, Ideal.log (gate lb z) = x := by
  have hσ : ∃ s : ℝ, 0 ≤ s ∧ s ≤ 1 ∧ Ideal.logistic z = s := by
    induction z using EReal.rec with
    | bot => exact ⟨0, le_refl _, zero_le_one, by simp⟩
    | top => exact ⟨1, zero_le_one, le_refl _, by simp⟩
    | coe r => exact ⟨(1 + Real.exp (-r))⁻¹, by positivity, inv_le_one_of_one_le₀ (by linarith [Real.exp_pos (-r)]), Ideal.logistic_coe r⟩
  obtain ⟨s, hs, hs1, he⟩ := hσ
  induction lb using EReal.rec with
  | bot => simp at h0
  | top => exact absurd h1 (lt_irrefl _)
  | coe b =>
    have hb : (0 : ℝ) < b := by exact_mod_cast h0
    unfold gate
    rw [he]
    have : (b : EReal) + (1 - (b : EReal)) * (s : EReal) = ((b + (1 - b) * s : ℝ) : EReal) := by push_cast; rfl
    rw [this]
    have hp : 0 < b + (1 - b) * s := by
      rcases hs.eq_or_lt with h | h
      · rw [← h]; simpa using hb
      · nlinarith [mul_nonneg hb.le (sub_nonneg.mpr hs1)]
    exact ⟨Real.log (b + (1 - b) * s), by rw [Ideal.log_coe]; simp [not_le.mpr hp]⟩

variable {lb}

theorem lfs_real (h : ∀ d, 0 < lb d ∧ lb d < ⊤) : ∃ x : Fin 16 → Fin 128 → ℝ, ∀ r d, lfs lb f r d = x r d := by
  have : ∀ r d, ∃ x : ℝ, lfs lb f r d = x := fun r d => by
    unfold lfs padded
    split
    · exact log_gate (h d).1 (h d).2
    · exact ⟨0, by simp⟩
  choose x hx using this
  exact ⟨x, hx⟩

/-- The kernel's outputs are the recurrence's. -/
theorem outK_eq (h : ∀ d, 0 < lb d ∧ lb d < ⊤) (t : Fin 16) (e : Fin 128) : outK lb q f v S t e = outR lb q f v S t e := by
  obtain ⟨x, hx⟩ := lfs_real f h
  unfold outK outR
  congr 1
  · refine Finset.sum_congr rfl fun d _ => ?_
    unfold tab
    rw [tabSum_low fun r => hx r d]
  · exact Finset.sum_congr rfl fun s _ => by rw [attnK_eq _ _ hx]

/-- The kernel's state is the recurrence's. -/
theorem stateK_eq (h : ∀ d, 0 < lb d ∧ lb d < ⊤) (d e : Fin 128) : stateK lb f v S d e = stateR lb f v S d e := by
  obtain ⟨x, hx⟩ := lfs_real f h
  unfold stateK stateR tab
  congr 1
  · rw [← tabSum_low (fun r => hx r d)]; rfl
  · refine Finset.sum_congr rfl fun s _ => ?_
    rw [tabSum_suf fun r => hx r d]
    ac_rfl

end

/-- One head's outputs over their root mean square. -/
def normed (o : Fin 128 → EReal) (e : Fin 128) : EReal :=
  o e * Ideal.rsqrt (Ideal.div (∑ e', o e' * o e') (Ideal.ofBits .f32 0x43000000#32) + Ideal.ofBits .f32 0x358637BD#32)

end Cert.Hg
-- ==== Proof.HgrnBody.lean ====
module

public import proofs.«01_k».proof.Proof.HgrnMath
public import Idealize.ShloMosaic.Lib.Pipeline.ValueKit
public import proofs.«01_k».proof.Proof.Gen.HgrnIdeal.Value

/-! The recurrence call's body at one element: what each stored value is in terms of the blocks it loads. -/

@[expose] public section

set_option maxRecDepth 16384

noncomputable section

namespace Cert.HgrnIdeal.Hg

open Cert.HgrnIdeal Cert.HgrnIdeal.Gen Cert.Hg Idealize.ShloMosaic Idealize.ShloMosaic.TcCoe Idealize.SL.Sem

/-! ## The masks -/

/-- A row's bit at level `n`. -/
theorem odd_mask (n : ℕ) (hn : n < 4) (t : Fin 16) :
    IntOp.cmpi CmpIPredicate.eq (IntOp.andi (IntOp.shrsi ArithUnit.vector (BitVec.ofNat 32 t) (BitVec.ofNat 32 n)) 1#32) 1#32
      = if odd n t then 1#1 else 0#1 := by
  interval_cases n <;> revert t <;> decide +kernel

/-- Two rows part at level `n`. -/
theorem pair_mask (n n' : ℕ) (hn : n < 4) (hn' : n' = n + 1) (t s : Fin 16) :
    IntOp.andi (IntOp.andi
        (IntOp.cmpi CmpIPredicate.eq (IntOp.shrsi ArithUnit.vector (BitVec.ofNat 32 t) (BitVec.ofNat 32 n'))
          (IntOp.shrsi ArithUnit.vector (BitVec.ofNat 32 s) (BitVec.ofNat 32 n')))
        (if odd n t then 1#1 else 0#1))
      (IntOp.cmpi CmpIPredicate.eq (IntOp.andi (IntOp.shrsi ArithUnit.vector (BitVec.ofNat 32 s) (BitVec.ofNat 32 n)) 1#32) 0#32)
      = if pair n t s then 1#1 else 0#1 := by
  subst hn'
  interval_cases n <;> revert t s <;> decide +kernel

theorem diag_mask (t s : Fin 16) :
    IntOp.cmpi CmpIPredicate.eq (BitVec.ofNat 32 t) (BitVec.ofNat 32 s) = if t = s then 1#1 else 0#1 := by
  revert t s; decide +kernel

/-- A sum taken under the two rows' masks, kept where the rows part. -/
theorem level_of (n : ℕ) (t s : Fin 16) (F : Fin 128 → EReal) :
    Scalar.select (if pair n t s then 1#1 else 0#1)
        (∑ d, Scalar.select (if odd n s then 1#1 else 0#1) 0
          (Scalar.select (if odd n t then 1#1 else 0#1) (F d) 0)) 0
      = if pair n t s then ∑ d, F d else 0 := by
  by_cases h : pair n t s
  · rw [if_pos h, if_pos h, if_pos h.2.1, if_neg h.2.2]
    simp [Scalar.select]
  · rw [if_neg h, if_neg h]
    simp [Scalar.select]

/-! ## The attention -/

theorem pay12_at (q k : FVec Ideal S16x128 .f32) (t s : Fin 16) :
    k0_pay12 k q (ix2 t s) = if t = s then ∑ d, q (ix2 t d) * k (ix2 s d) else 0 := by
  pointwise [k0_pay12]
  rw [diag_mask]
  by_cases h : t = s <;> simp [Scalar.select, h]

section

variable (q k : FVec Ideal S16x128 .f32) (E : FVec Ideal S96x128 .f32) (A : FVec Ideal S16x16 .f32)
  (e : ℕ → Fin 128 → EReal) (he : ∀ (R : Fin 96) (d : Fin 128), E (ix2 R d) = e R d) (t s : Fin 16)
include he

theorem level0_at : k0_pay20 A (k0_pay15 q E) (k0_pay16 k E) k0_pay17 k0_pay18 k0_pay19 (ix2 t s)
    = A (ix2 t s) + level (fun t d => q (ix2 t d)) (fun t d => k (ix2 t d)) e 0 t s := by
  pointwise [k0_pay20, k0_pay13, k0_pay14, k0_pay15, k0_pay16, k0_pay17, k0_pay18, k0_pay19]
  rw [odd_mask 0 (by decide), odd_mask 0 (by decide), pair_mask 0 1 (by decide) rfl, level_of]
  simp only [he]
  rfl

theorem level1_at : k0_pay27 A (k0_pay23 q E (iota Kind.tc S16x1 32 [0] iota_S16x1_d0_w32))
      (k0_pay24 k E (iota Kind.tc S16x1 32 [0] iota_S16x1_d0_w32))
      (k0_pay25 (iota Kind.tc S16x16 32 [0] iota_S16x16_d0_w32) (iota Kind.tc S16x16 32 [1] iota_S16x16_d1_w32))
      (k0_pay26 (iota Kind.tc S16x16 32 [1] iota_S16x16_d1_w32)) 0#32 (ix2 t s)
    = A (ix2 t s) + level (fun t d => q (ix2 t d)) (fun t d => k (ix2 t d)) e 1 t s := by
  pointwise [k0_pay27, k0_pay21, k0_pay22, k0_pay23, k0_pay24, k0_pay25, k0_pay26]
  rw [odd_mask 1 (by decide), odd_mask 1 (by decide), pair_mask 1 2 (by decide) rfl, level_of]
  simp only [he]
  rfl

theorem level2_at : k0_pay34 A (k0_pay30 q E (iota Kind.tc S16x1 32 [0] iota_S16x1_d0_w32))
      (k0_pay31 k E (iota Kind.tc S16x1 32 [0] iota_S16x1_d0_w32))
      (k0_pay32 (iota Kind.tc S16x16 32 [0] iota_S16x16_d0_w32) (iota Kind.tc S16x16 32 [1] iota_S16x16_d1_w32))
      (k0_pay33 (iota Kind.tc S16x16 32 [1] iota_S16x16_d1_w32)) (ix2 t s)
    = A (ix2 t s) + level (fun t d => q (ix2 t d)) (fun t d => k (ix2 t d)) e 2 t s := by
  pointwise [k0_pay34, k0_pay28, k0_pay29, k0_pay30, k0_pay31, k0_pay32, k0_pay33]
  rw [odd_mask 2 (by decide), odd_mask 2 (by decide), pair_mask 2 3 (by decide) rfl, level_of]
  simp only [he]
  rfl

/-- The last level, as it is formed inside the output. -/
theorem level3_at : Scalar.select (k0_pay39 (iota Kind.tc S16x16 32 [0] iota_S16x16_d0_w32)
        (iota Kind.tc S16x16 32 [1] iota_S16x16_d1_w32) (ix2 t s))
      (∑ d, k0_pay37 q E (iota Kind.tc S16x1 32 [0] iota_S16x1_d0_w32) (ix2 t d)
        * k0_pay38 k E (iota Kind.tc S16x1 32 [0] iota_S16x1_d0_w32) (ix2 s d)) 0
    = level (fun t d => q (ix2 t d)) (fun t d => k (ix2 t d)) e 3 t s := by
  pointwise [k0_pay35, k0_pay36, k0_pay37, k0_pay38, k0_pay39]
  rw [odd_mask 3 (by decide), odd_mask 3 (by decide), pair_mask 3 4 (by decide) rfl, level_of]
  simp only [he]
  rfl

end

/-! ## The rows -/

theorem pay5_at (lb : Vec Ideal S1x1x128 .f32) (f : Vec Ideal S8x128 .f32) (t : Fin 16) (d : Fin 128) :
    k0_pay5 lb f (ix2 t d) = keys (fun d => lb (ix3 0 0 d)) (fun t d => f (ix2 t d)) t d := by
  pointwise [k0_pay5, k0_pay3, k0_pay4]
  rfl

theorem pay6_at (q : Vec Ideal S8x128 .f32) (t : Fin 16) (d : Fin 128) :
    k0_pay6 q (ix2 t d) = padded (fun t d => q (ix2 t d)) t d := by
  pointwise [k0_pay6, k0_pay4]
  rfl

theorem pay7_at (v : Vec Ideal S8x128 .f32) (t : Fin 16) (d : Fin 128) :
    k0_pay7 v (ix2 t d) = padded (fun t d => v (ix2 t d)) t d := by
  pointwise [k0_pay7, k0_pay4]
  rfl

/-- A sum over the padded rows: over the rows, and the zeros after them. -/
theorem sum_pad (c : Fin 16 → EReal) (a : Fin 8 → EReal) (F : EReal → EReal) (hF : F 0 = 0) :
    ∑ r : Fin 16, c r * F (if h : r.val < 8 then a ⟨r.val, h⟩ else 0)
      = ∑ x : Fin 8, c ⟨x, by omega⟩ * F (a x) + ∑ x : Fin 8, c ⟨8 + x, by omega⟩ * 0 := by
  show ∑ r : Fin (8 + 8), _ = _
  rw [Fin.sum_univ_add]
  refine congrArg₂ (· + ·) (Finset.sum_congr rfl fun x _ => ?_) (Finset.sum_congr rfl fun x _ => ?_)
  · rw [dif_pos (show (Fin.castAdd 8 x).val < 8 from x.isLt)]
    rfl
  · rw [dif_neg (show ¬ (Fin.natAdd 8 x).val < 8 from not_lt.mpr (Nat.le_add_right _ _)), hF]
    rfl

theorem pay8_at (lb : Vec Ideal S1x1x128 .f32) (f : Vec Ideal S8x128 .f32) (T : Vec Ideal S96x16 .bf16)
    (hT : ∀ (R : Fin 96) (r : Fin 16), T (ix2 R r) = if inRow R r then 1 else 0) (R : Fin 96) (d : Fin 128) :
    k0_pay8 lb f T (ix2 R d) = tab (lfs (fun d => lb (ix3 0 0 d)) (fun t d => f (ix2 t d))) R d := by
  pointwise [k0_pay8, k0_pay3, k0_pay4]
  have P := sum_pad (fun r => if inRow R r then (1 : EReal) else 0)
    (fun t => Ideal.log (gate (lb (ix3 0 0 d)) (f (ix2 t d))))
  refine Eq.trans ?_ (congrArg₂ (· + ·) (congrArg₂ (· + ·) (P (fun a => a) rfl) (P (fun a => a - a) (by simp)))
    (P (fun a => a - a - (a - a)) (by simp))).symm
  simp only [hT]
  rfl

theorem pay9_at (lb : Vec Ideal S1x1x128 .f32) (f : Vec Ideal S8x128 .f32) (T : Vec Ideal S96x16 .bf16)
    (t : Fin 16) (d : Fin 128) : k0_pay9 lb f T (ix2 t d) = k0_pay8 lb f T (ix2 ⟨t, by omega⟩ d) := by
  generalize h : k0_pay8 lb f T = E
  pointwise [k0_pay9, h]

theorem pay10_at (E : FVec Ideal S96x128 .f32) (t : Fin 16) (d : Fin 128) :
    k0_pay10 E (ix2 t d) = E (ix2 ⟨16 + t, by omega⟩ d) := by
  pointwise [k0_pay10]

theorem pay2_at (s : Vec Ideal S1x1x128x128 .f32) (e d : Fin 128) : k0_pay2 s (ix2 e d) = s (ix4 0 0 d e) := by
  pointwise [k0_pay2]

/-! ## The two stored values -/

section

variable (x0 x1 x2 x3 : Vec Ideal S8x128 .f32) (x4 x5 : Vec Ideal S1x1x128 .f32) (x6 : Vec Ideal S1x1x128x128 .f32)
  (x7 : Vec Ideal S96x16 .bf16) (hT : ∀ (R : Fin 96) (r : Fin 16), x7 (ix2 R r) = if inRow R r then 1 else 0)
include hT

/-- The state's block. -/
theorem state_at (d e : Fin 128) :
    k0_pay42 (k0_pay5 x4 x1) (k0_pay9 x4 x1 x7) (k0_pay10 (k0_pay8 x4 x1 x7)) (k0_pay11 (k0_pay7 x2)) (k0_pay2 x6)
        (ix4 0 0 d e)
      = stateK (fun d => x4 (ix3 0 0 d)) (fun t d => x1 (ix2 t d)) (fun t d => x2 (ix2 t d))
          (fun d e => x6 (ix4 0 0 d e)) d e := by
  have h11 : ∀ t d, k0_pay11 (F := Ideal) (k0_pay7 x2) (ix2 t d) = k0_pay7 x2 (ix2 t d) := fun t d => rfl
  have h : ∀ (k b f : FVec Ideal S16x128 .f32) (v : FVec Ideal S16x128 .bf16) (st : Vec Ideal S128x128 .f32),
      k0_pay42 k b f v st (ix4 0 0 d e) = Ideal.exp (b (ix2 15 d)) * st (ix2 e d)
        + ∑ x, v (ix2 x e) * (k (ix2 x d) * Ideal.exp (f (ix2 x d))) := by
    intro k b f v st
    pointwise [k0_pay42, k0_pay40]
  rw [h]
  simp only [h11, pay2_at, pay5_at, pay7_at, pay9_at, pay10_at, pay8_at _ _ _ hT]
  rfl

/-- The output's block. -/
theorem out_at (r : Fin 8) (e : Fin 128) :
    k0_pay1
      (k0_pay43 (k0_pay6 x0) (k0_pay9 x4 x1 x7) (k0_pay11 (k0_pay7 x2))
        (k0_pay34
          (k0_pay27
            (k0_pay20 (k0_pay12 (k0_pay5 x4 x1) (k0_pay6 x0)) (k0_pay15 (k0_pay6 x0) (k0_pay8 x4 x1 x7))
              (k0_pay16 (k0_pay5 x4 x1) (k0_pay8 x4 x1 x7)) k0_pay17 k0_pay18 k0_pay19)
            (k0_pay23 (k0_pay6 x0) (k0_pay8 x4 x1 x7) (iota Kind.tc S16x1 32 [0] iota_S16x1_d0_w32))
            (k0_pay24 (k0_pay5 x4 x1) (k0_pay8 x4 x1 x7) (iota Kind.tc S16x1 32 [0] iota_S16x1_d0_w32))
            (k0_pay25 (iota Kind.tc S16x16 32 [0] iota_S16x16_d0_w32) (iota Kind.tc S16x16 32 [1] iota_S16x16_d1_w32))
            (k0_pay26 (iota Kind.tc S16x16 32 [1] iota_S16x16_d1_w32)) 0#32)
          (k0_pay30 (k0_pay6 x0) (k0_pay8 x4 x1 x7) (iota Kind.tc S16x1 32 [0] iota_S16x1_d0_w32))
          (k0_pay31 (k0_pay5 x4 x1) (k0_pay8 x4 x1 x7) (iota Kind.tc S16x1 32 [0] iota_S16x1_d0_w32))
          (k0_pay32 (iota Kind.tc S16x16 32 [0] iota_S16x16_d0_w32) (iota Kind.tc S16x16 32 [1] iota_S16x16_d1_w32))
          (k0_pay33 (iota Kind.tc S16x16 32 [1] iota_S16x16_d1_w32)))
        (k0_pay37 (k0_pay6 x0) (k0_pay8 x4 x1 x7) (iota Kind.tc S16x1 32 [0] iota_S16x1_d0_w32))
        (k0_pay38 (k0_pay5 x4 x1) (k0_pay8 x4 x1 x7) (iota Kind.tc S16x1 32 [0] iota_S16x1_d0_w32))
        (k0_pay39 (iota Kind.tc S16x16 32 [0] iota_S16x16_d0_w32) (iota Kind.tc S16x16 32 [1] iota_S16x16_d1_w32))
        (constant S16x16 FTy.f32 0#32) (k0_pay2 x6))
      (k0_pay44 x5) x3 (ix2 r e)
      = normed (outK (fun d => x4 (ix3 0 0 d)) (fun t d => x0 (ix2 t d)) (fun t d => x1 (ix2 t d))
            (fun t d => x2 (ix2 t d)) (fun d e => x6 (ix4 0 0 d e)) ⟨r, by omega⟩) e
          * x5 (ix3 0 0 e) * (x3 (ix2 r e) * Ideal.logistic (x3 (ix2 r e))) := by
  have h11 : ∀ t d, k0_pay11 (F := Ideal) (k0_pay7 x2) (ix2 t d) = k0_pay7 x2 (ix2 t d) := fun t d => rfl
  have h43 : ∀ (q b : FVec Ideal S16x128 .f32) (v : FVec Ideal S16x128 .bf16) (A : FVec Ideal S16x16 .f32)
      (x y : FVec Ideal S16x128 .bf16) (M : IVec S16x16 1) (st : Vec Ideal S128x128 .f32),
      k0_pay43 q b v A x y M (constant S16x16 FTy.f32 0#32) st (ix2 r e)
        = normed (fun e => (∑ d, q (ix2 ⟨r, by omega⟩ d) * Ideal.exp (b (ix2 ⟨r, by omega⟩ d)) * st (ix2 e d))
            + ∑ s : Fin 16, (A (ix2 ⟨r, by omega⟩ s) + Scalar.select (M (ix2 ⟨r, by omega⟩ s))
                (∑ d, x (ix2 ⟨r, by omega⟩ d) * y (ix2 s d)) 0) * v (ix2 s e)) e := by
    intro q b v A x y M st
    pointwise [k0_pay43]
    rfl
  have h1 : ∀ (a b : FVec Ideal S8x128 .f32), k0_pay1 a b x3 (ix2 r e)
      = a (ix2 r e) * b (ix2 r e) * (x3 (ix2 r e) * Ideal.logistic (x3 (ix2 r e))) := by
    intro a b
    pointwise [k0_pay1]
  have h44 : k0_pay44 x5 (ix2 r e) = x5 (ix3 0 0 e) := by pointwise [k0_pay44]
  rw [h1, h43, h44]
  have hE := pay8_at x4 x1 x7 hT
  simp only [level3_at _ _ _ _ hE, level2_at _ _ _ _ _ hE, level1_at _ _ _ _ _ hE, level0_at _ _ _ _ _ hE, pay12_at,
    h11, pay2_at, pay5_at, pay6_at, pay7_at, pay9_at, hE]
  rfl

end

end Cert.HgrnIdeal.Hg

end
-- ==== Proof.HgrnTable.lean ====
module

public import proofs.«01_k».proof.Proof.HgrnBody
public import Idealize.ShloMosaic.Lib.Claim

/-! The table of zeros and ones the recurrence call takes, entry by entry, and the blocks the call's body loads. -/

@[expose] public section

set_option maxRecDepth 16384

noncomputable section

namespace Cert.HgrnIdeal.Hg

open Cert.HgrnIdeal Cert.HgrnIdeal.Gen Cert.Hg Idealize.ShloMosaic Idealize.ShloMosaic.TcCoe Idealize.SL.Sem

/-- Which block each window stages at point `t`: the heads run fastest; the four column parts of the projections lie
    sixteen heads apart. -/
theorem idx : ∀ t : Fin cfg0.N, win0_0.index t = ![t.val / 16, t.val % 16] ∧ win0_1.index t = ![t.val / 16, 16 + t.val % 16]
    ∧ win0_2.index t = ![t.val / 16, 32 + t.val % 16] ∧ win0_3.index t = ![t.val / 16, 48 + t.val % 16]
    ∧ win0_4.index t = ![t.val % 16, 0, 0] ∧ win0_5.index t = ![t.val % 16, 0, 0]
    ∧ win0_6.index t = ![t.val / 16, t.val % 16, 0, 0] ∧ win0_7.index t = ![0, 0]
    ∧ win0_8.index t = ![t.val / 16, t.val % 16] ∧ win0_9.index t = ![t.val / 16, t.val % 16, 0, 0] :=
  (by decide +kernel : ∀ t : Fin grid0.N, _)

theorem word_at : ∀ (R : Fin 96) (r : Fin 16),
    lit0 (S96x16.rowMajor (ix2 R r)) = if inRow R r then 0x3F80#16 else 0#16 := by decide +kernel

theorem one_word : Ideal.ofBits .bf16 0x3F80#16 = 1 := by pointwise

theorem zero_word : Ideal.ofBits .bf16 0#16 = 0 := by pointwise

variable (m : (ℓ : Loc nD τ sig) → Buf (Elt Ideal) ℓ)

theorem table_at (c : Dev nD) (t : Fin cfg0.N) (R : Fin 96) (r : Fin 16) :
    (show Vec Ideal S96x16 .bf16 from iblk m c 7 t) (ix2 R r) = if inRow R r then (1 : EReal) else 0 := by
  have h : (show Vec Ideal S96x16 .bf16 from iblk m c 7 t) (ix2 R r) = Ideal.ofBits .bf16 (lit0 (S96x16.rowMajor (ix2 R r))) := by
    blk_simp [iblk]
    entry_read
    show Ideal.ofBits _ _ = _
    congr 3
    blk_ext [idx t]
  rw [h, word_at]
  split
  · exact one_word
  · exact zero_word

end Cert.HgrnIdeal.Hg

end
-- ==== Proof.HgrnCumsum.lean ====
module

public import proofs.«01_k».proof.Proof.HgrnMath
public import proofs.«01_k».proof.Proof.Gen.HgrnRefIdeal.Read

/-! The reference's running sum, a sum over windows of sixteen rows padded with fifteen zeros, at one element. -/

@[expose] public section

set_option maxRecDepth 16384

noncomputable section

namespace Cert.HgrnRefIdeal.Hg

open Cert.HgrnRefIdeal Cert.HgrnRefIdeal.Gen Cert.Hg Idealize.ShloMosaic Idealize.ShloMosaic.TcCoe

theorem foldl_add {α : Type} (g : α → EReal) (l : List α) (v : EReal) :
    l.foldl (fun r k => r + g k) v = v + (l.map g).sum := by
  induction l generalizing v with
  | nil => simp
  | cons a l ih => simp [ih, add_assoc]

theorem foldl_finRange {n : ℕ} (g : Fin n → EReal) (v : EReal) :
    (List.finRange n).foldl (fun r k => r + g k) v = v + ∑ k, g k := by
  rw [foldl_add, Fin.sum_univ_def]

/-- A window that ends at row `t` holds the rows up to `t`. -/
theorem sum_window (X : Fin 16 → EReal) (t : Fin 16) :
    (∑ n : Fin 16, if h : 15 ≤ t.val + n.val then X ⟨t.val + n.val - 15, by omega⟩ else 0) = cum X t := by
  unfold cum
  rw [← Equiv.sum_comp (Equiv.addRight (t + 1)) (fun r => if r ≤ t then X r else 0)]
  refine Finset.sum_congr rfl fun n _ => ?_
  have hv : (n + (t + 1)).val = (n.val + (t.val + 1)) % 16 := by
    rw [Fin.val_add, Fin.val_add]
    show (n.val + (t.val + 1) % 16) % 16 = _
    omega
  show _ = if n + (t + 1) ≤ t then X (n + (t + 1)) else 0
  by_cases h : 15 ≤ t.val + n.val
  · have e : n + (t + 1) = ⟨t.val + n.val - 15, by omega⟩ := Fin.ext (by rw [hv]; show _ = t.val + n.val - 15; omega)
    rw [dif_pos h, e, if_pos (by show t.val + n.val - 15 ≤ t.val; omega)]
  · rw [dif_neg h, if_neg (by show ¬ (n + (t + 1)).val ≤ t.val; rw [hv]; omega)]

/-- The window's positions. -/
abbrev W : Shape := ⟨4, ![1, 1, 16, 1]⟩

/-- What a window position contributes. -/
def term (x : FVec Ideal S32x16x16x128 .f32) (v : EReal) (j : S32x16x16x128.Idx) (w : W.Idx) : EReal :=
  if hin : ∀ a : Fin 4, (![0, 0, 15, 0] : Fin 4 → ℕ) a ≤ (j a).val * (![1, 1, 1, 1] : Fin 4 → ℕ) a + (w a).val
      ∧ (j a).val * (![1, 1, 1, 1] : Fin 4 → ℕ) a + (w a).val - (![0, 0, 15, 0] : Fin 4 → ℕ) a < S32x16x16x128.size a
  then x (fun a => ⟨(j a).val * (![1, 1, 1, 1] : Fin 4 → ℕ) a + (w a).val - (![0, 0, 15, 0] : Fin 4 → ℕ) a, (hin a).2⟩)
  else v

theorem term_at (x : FVec Ideal S32x16x16x128 .f32) (b : Fin 32) (h t : Fin 16) (d : Fin 128) (n : Fin 16) :
    term x 0 (ix4 b h t d) (ix4 (0 : Fin 1) (0 : Fin 1) n (0 : Fin 1))
      = if h' : 15 ≤ t.val + n.val then x (ix4 b h ⟨t.val + n.val - 15, by omega⟩ d) else 0 := by
  unfold term
  by_cases h' : 15 ≤ t.val + n.val
  · have hin : ∀ a : Fin 4, (![0, 0, 15, 0] : Fin 4 → ℕ) a ≤ ((ix4 b h t d : S32x16x16x128.Idx) a).val * (![1, 1, 1, 1] : Fin 4 → ℕ) a
          + ((ix4 (0 : Fin 1) (0 : Fin 1) n (0 : Fin 1) : W.Idx) a).val
        ∧ ((ix4 b h t d : S32x16x16x128.Idx) a).val * (![1, 1, 1, 1] : Fin 4 → ℕ) a
          + ((ix4 (0 : Fin 1) (0 : Fin 1) n (0 : Fin 1) : W.Idx) a).val - (![0, 0, 15, 0] : Fin 4 → ℕ) a < S32x16x16x128.size a := by
      intro a
      fin_cases a
      · show 0 ≤ b.val * 1 + 0 ∧ b.val * 1 + 0 - 0 < 32; omega
      · show 0 ≤ h.val * 1 + 0 ∧ h.val * 1 + 0 - 0 < 16; omega
      · show 15 ≤ t.val * 1 + n.val ∧ t.val * 1 + n.val - 15 < 16; omega
      · show 0 ≤ d.val * 1 + 0 ∧ d.val * 1 + 0 - 0 < 128; omega
    rw [dif_pos hin, dif_pos h']
    congr 1
    funext a
    fin_cases a <;> apply Fin.ext
    · show b.val * 1 + 0 - 0 = b.val; omega
    · show h.val * 1 + 0 - 0 = h.val; omega
    · show t.val * 1 + n.val - 15 = t.val + n.val - 15; omega
    · show d.val * 1 + 0 - 0 = d.val; omega
  · rw [dif_neg h', dif_neg]
    intro hin
    have := (hin 2).1
    change 15 ≤ t.val * 1 + n.val at this
    omega

theorem window_at (x : FVec Ideal S32x16x16x128 .f32) (z : FVec Ideal S_ .f32) (hz : ∀ i, z i = 0)
    (b : Fin 32) (h t : Fin 16) (d : Fin 128) :
    Host.reduceWindowAdd ![1, 1, 16, 1] ![1, 1, 1, 1] ![0, 0, 15, 0] ![0, 0, 0, 0] x z
        reduceWindows_S32x16x16x128_S32x16x16x128_w1s1p0_0_w1s1p0_0_w16s1p15_0_w1s1p0_0 h_S_ (ix4 b h t d)
      = cum (fun r => x (ix4 b h r d)) t := by
  have e : Host.reduceWindowAdd ![1, 1, 16, 1] ![1, 1, 1, 1] ![0, 0, 15, 0] ![0, 0, 0, 0] x z
        reduceWindows_S32x16x16x128_S32x16x16x128_w1s1p0_0_w1s1p0_0_w16s1p15_0_w1s1p0_0 h_S_ (ix4 b h t d)
      = (List.finRange W.numel).foldl (fun r n => r + term x (z (Shape.Idx.first h_S_)) (ix4 b h t d) (W.rowMajor.symm n))
          (z (Shape.Idx.first h_S_)) := by
    unfold Host.reduceWindowAdd
    show Ideal.hostReduceWindowAdd (s := S32x16x16x128) (t := S32x16x16x128) ![1, 1, 16, 1] ![1, 1, 1, 1] ![0, 0, 15, 0]
      ![0, 0, 0, 0] reduceWindows_S32x16x16x128_S32x16x16x128_w1s1p0_0_w1s1p0_0_w16s1p15_0_w1s1p0_0 x _ _ = _
    unfold Ideal.hostReduceWindowAdd Host.reduceWindow term
    dsimp only
    congr 1
    funext r n
    exact congrArg (r + ·) (dite_congr rfl (fun _ => rfl) fun _ => rfl)
  rw [e, foldl_finRange, hz, zero_add, Equiv.sum_comp W.rowMajor.symm (term x 0 (ix4 b h t d)), sum_idx4]
  simp only [Fin.sum_univ_one]
  rw [← sum_window]
  exact Finset.sum_congr rfl fun n _ => term_at x b h t d n

end Cert.HgrnRefIdeal.Hg

end
-- ==== Proof.HgrnRef.lean ====
module

public import proofs.«01_k».proof.Proof.HgrnCumsum
public import proofs.«01_k».proof.Proof.Gen.HgrnRefIdeal.Read

/-! The recurrence's reference at one element of each of its two results. -/

@[expose] public section

set_option maxRecDepth 16384

noncomputable section

namespace Cert.HgrnRefIdeal.Hg

open Cert.HgrnRefIdeal Cert.HgrnRefIdeal.Gen Cert.HgrnRefIdeal.Read Cert.Hg Idealize.ShloMosaic Idealize.ShloMosaic.TcCoe

variable (x0 : Vec Ideal S256x8192 .f32) (x1 : Vec Ideal S2048 .f32) (x2 : Vec Ideal S16x128 .f32)
  (x3 : Vec Ideal S32x16x128x128 .f32)

/-- One head's queries over one sequence. -/
def qs (b : Fin 32) (h : Fin 16) (r : Fin 8) (d : Fin 128) : EReal := x0 (ix2 ⟨b * 8 + r, by omega⟩ ⟨h * 128 + d, by omega⟩)

/-- One head's forget gate logits over one sequence. -/
def fs (b : Fin 32) (h : Fin 16) (r : Fin 8) (d : Fin 128) : EReal :=
  x0 (ix2 ⟨b * 8 + r, by omega⟩ ⟨2048 + (h * 128 + d), by omega⟩)

/-- One head's values over one sequence. -/
def vs (b : Fin 32) (h : Fin 16) (r : Fin 8) (d : Fin 128) : EReal :=
  x0 (ix2 ⟨b * 8 + r, by omega⟩ ⟨4096 + (h * 128 + d), by omega⟩)

/-- One head's lower bounds. -/
def lbs (h : Fin 16) (d : Fin 128) : EReal := x1 (ix1 ⟨h * 128 + d, by omega⟩)

/-- One head's state over one sequence. -/
def ss (b : Fin 32) (h : Fin 16) (d e : Fin 128) : EReal := x3 (ix4 b h d e)

theorem sitofp_zero : FloatOps.sitofp (F := Ideal) FTy.f32 0#32 = 0 := by
  show (((0#32 : BitVec 32).toInt : ℝ) : EReal) = 0
  simp

theorem v21_at (b : Fin 32) (r : Fin 8) (h : Fin 16) (d : Fin 128) :
    val_main_v21 (F := Ideal) x0 x1 (ix4 b r h d) = Ideal.log (gate (lbs x1 h d) (fs x0 b h r d)) := by
  pointwise [val_main_v0, val_main_v2, val_main_v5, val_main_cst, val_main_v6, val_main_v7, val_main_v8, val_main_v9,
    val_main_v10, val_main_cst_0, val_main_v11, val_main_v12, val_main_cst_1, val_main_v13, val_main_v14, val_main_v15,
    val_main_v16, val_main_v17, val_main_v18, val_main_v19, val_main_v20, val_main_v21]
  rfl

theorem v23_at (b : Fin 32) (r : Fin 8) (h : Fin 16) (d : Fin 128) :
    val_main_v23 (F := Ideal) x0 x1 (ix4 b r h d) = 1 - gate (lbs x1 h d) (fs x0 b h r d) := by
  pointwise [val_main_v0, val_main_v2, val_main_v5, val_main_cst, val_main_v6, val_main_v7, val_main_v8, val_main_v9,
    val_main_v10, val_main_cst_0, val_main_v11, val_main_v12, val_main_cst_1, val_main_v13, val_main_v14, val_main_v15,
    val_main_v16, val_main_v17, val_main_v18, val_main_v19, val_main_v20, val_main_cst_2, val_main_v22, val_main_v23]
  rfl

variable (b : Fin 32) (h t : Fin 16)

theorem v27_at (d : Fin 128) : val_main_v27 (F := Ideal) x0 (ix4 b h t d) = padded (qs x0 b h) t d := by
  pointwise [val_main_v0, val_main_v1, val_main_v24, val_main_c, val_main_call0_v0, val_main_v26, val_main_v27]
  rw [sitofp_zero]
  rfl

theorem v29_at (d : Fin 128) : val_main_v29 (F := Ideal) x0 x1 (ix4 b h t d) = lfs (lbs x1 h) (fs x0 b h) t d := by
  pointwise [val_main_c_3, val_main_call1_v0, val_main_v28, val_main_v29]
  simp only [v21_at, sitofp_zero]
  rfl

theorem v31_at (d : Fin 128) : val_main_v31 (F := Ideal) x0 x1 (ix4 b h t d) = keys (lbs x1 h) (fs x0 b h) t d := by
  pointwise [val_main_c_4, val_main_call2_v0, val_main_v30, val_main_v31]
  simp only [v23_at, sitofp_zero]
  rfl

theorem v33_at (d : Fin 128) : val_main_v33 (F := Ideal) x0 (ix4 b h t d) = padded (vs x0 b h) t d := by
  pointwise [val_main_v0, val_main_v3, val_main_v25, val_main_c_5, val_main_call3_v0, val_main_v32, val_main_v33]
  rw [sitofp_zero]
  rfl

theorem v37_at (d : Fin 128) :
    val_main_v37 (F := Ideal) x0 x1 (ix4 b h t d) = cum (fun r => lfs (lbs x1 h) (fs x0 b h) r d) t := by
  unfold val_main_v37
  rw [window_at]
  · simp only [v29_at]
  · intro i
    pointwise [val_main_call5_call0_v0, val_main_call5_call0_cst]

theorem causal_mask (t s : Fin 16) :
    IntOp.cmpi CmpIPredicate.sge (IntOp.addi (BitVec.ofNat 32 t) 0#32) (BitVec.ofNat 32 s) = if s ≤ t then 1#1 else 0#1 := by
  revert t s; decide +kernel

theorem minus_infinity : id (constant (F := Ideal) S_ FTy.f32 4286578688#32) ix0 = ⊥ := by
  show Ideal.ofBits .f32 0xFF800000#32 = ⊥
  simp [Ideal.ofBits, Ideal.ieee]

theorem v51_at (s : Fin 16) : val_main_v51 (F := Ideal) x0 x1 (ix4 b h t s)
    = attnR (padded (qs x0 b h)) (keys (lbs x1 h) (fs x0 b h)) (lfs (lbs x1 h) (fs x0 b h)) t s := by
  pointwise [val_main_c_6, val_main_v34, val_main_call4_v0, val_main_call4_c, val_main_call4_v1, val_main_call4_v2,
    val_main_call4_v3, val_main_call4_v4, val_main_call4_c_0, val_main_call4_v5, val_main_v35, val_main_v36,
    val_main_v38, val_main_v39, val_main_v40, val_main_v41, val_main_v42, val_main_cst_7, val_main_call6_v0,
    val_main_call6_v1, val_main_call6_v2, val_main_v43, val_main_v44, val_main_v45, val_main_v46, val_main_v47,
    val_main_v48, val_main_v49, val_main_v50, val_main_cst_8, val_main_v51]
  unfold attnR
  refine Finset.sum_congr rfl fun d _ => ?_
  rw [v27_at, v31_at, v37_at, v37_at, causal_mask, minus_infinity]
  by_cases hle : s ≤ t <;> simp [hle, Scalar.select]

theorem v56_at (e : Fin 128) : val_main_v56 (F := Ideal) x0 x1 x3 (ix4 b h t e)
    = outR (lbs x1 h) (qs x0 b h) (fs x0 b h) (vs x0 b h) (ss x3 b h) t e := by
  pointwise [val_main_v52, val_main_v53, val_main_v54, val_main_v55, val_main_v56]
  simp only [v27_at, v37_at, v51_at, v33_at]
  rfl

/-- The state after the chunk, one entry. -/
theorem v68_at (d e : Fin 128) : val_main_v68 (F := Ideal) x0 x1 x3 (ix4 b h d e)
    = stateR (lbs x1 h) (fs x0 b h) (vs x0 b h) (ss x3 b h) d e := by
  pointwise [val_main_v57, val_main_v58, val_main_v59, val_main_v60, val_main_v61, val_main_v62, val_main_v63,
    val_main_v64, val_main_v65, val_main_v66, val_main_v67, val_main_v68]
  simp only [v37_at, v31_at, v33_at]
  rfl

/-- The output, one element: the head is the column's hundred and twenty-eighth part, the sequence the row's eighth. -/
theorem v87_at (i : Fin 256) (j : Fin 2048) (b : Fin 32) (h : Fin 16) (r : Fin 8) (e : Fin 128)
    (hi : i.val = b * 8 + r) (hj : j.val = h * 128 + e) : val_main_v87 (F := Ideal) x0 x1 x2 x3 (ix2 i j)
    = normed (outR (lbs x1 h) (qs x0 b h) (fs x0 b h) (vs x0 b h) (ss x3 b h) ⟨r, by omega⟩) e * x2 (ix2 h e)
        * (x0 (ix2 i ⟨6144 + j, by omega⟩) * Ideal.logistic (x0 (ix2 i ⟨6144 + j, by omega⟩))) := by
  have e1 : (⟨i.val / 8, by omega⟩ : Fin 32) = b := Fin.ext (by show i.val / 8 = b.val; omega)
  have e2 : (⟨j.val / 128, by omega⟩ : Fin 16) = h := Fin.ext (by show j.val / 128 = h.val; omega)
  have e3 : (⟨i.val % 8, by omega⟩ : Fin 16) = ⟨r, by omega⟩ := Fin.ext (by show i.val % 8 = r.val; omega)
  have e4 : (⟨j.val % 128, by omega⟩ : Fin 128) = e := Fin.ext (by show j.val % 128 = e.val; omega)
  pointwise [val_main_v0, val_main_v4, val_main_v69, val_main_v70, val_main_v71, val_main_cst_9, val_main_v72, val_main_v73, val_main_cst_10,
    val_main_v74, val_main_v75, val_main_cst_11, val_main_v76, val_main_v77, val_main_v78, val_main_v79, val_main_v80,
    val_main_v81, val_main_v82, val_main_v83, val_main_v84, val_main_call7_v0, val_main_call7_v1, val_main_call7_cst,
    val_main_call7_v2, val_main_call7_v3, val_main_call7_cst_0, val_main_call7_v4, val_main_call7_v5, val_main_v85,
    val_main_v86, val_main_v87]
  simp only [e1, e2, e3, e4, v56_at]
  rfl

end Cert.HgrnRefIdeal.Hg

end
-- ==== Proof.HgrnValue.lean ====
module

public import proofs.«01_k».proof.Proof.HgrnTable
public import proofs.«01_k».proof.Proof.HgrnRef

/-! The recurrence call's two result arrays after the run are the reference's. -/

@[expose] public section

set_option maxRecDepth 16384

noncomputable section

namespace Cert.HgrnIdeal.Hg

open Cert.HgrnIdeal Cert.HgrnIdeal.Gen Cert.Hg Idealize.ShloMosaic Idealize.ShloMosaic.TcCoe Idealize.SL.Sem
open Idealize.ShloMosaic.Pipeline (Dat)

variable (m : (ℓ : Loc nD τ sig) → Buf (Elt Ideal) ℓ)

/-- The lower bounds are positive and finite. -/
abbrev Bounds (lb : Vec Ideal S2048 .f32) : Prop := ∀ i : Fin 2048, 0 < lb (ix1 i) ∧ lb (ix1 i) < ⊤

theorem points (t : Fin cfg0.N) : t.val < 512 := lt_of_lt_of_eq t.isLt (by decide +kernel)

/-- The sequence a point works on. -/
def seq (t : Fin cfg0.N) : Fin 32 := ⟨t.val / 16, by have := points t; omega⟩

/-- The head a point works on. -/
def head (t : Fin cfg0.N) : Fin 16 := ⟨t.val % 16, by omega⟩

section

variable (c : Dev nD) (t : Fin cfg0.N)

theorem qs_blk : (fun (r : Fin 8) (d : Fin 128) => (show Vec Ideal S8x128 .f32 from iblk m c 0 t) (ix2 r d))
    = HgrnRefIdeal.Hg.qs (m ((c : Thread nD τ).loc main_arg0)) (seq t) (head t) := by
  funext r d
  unfold HgrnRefIdeal.Hg.qs seq head
  blk_point [iblk, V, idx t]

theorem fs_blk : (fun (r : Fin 8) (d : Fin 128) => (show Vec Ideal S8x128 .f32 from iblk m c 1 t) (ix2 r d))
    = HgrnRefIdeal.Hg.fs (m ((c : Thread nD τ).loc main_arg0)) (seq t) (head t) := by
  funext r d
  unfold HgrnRefIdeal.Hg.fs seq head
  blk_point [iblk, V, idx t]

theorem vs_blk : (fun (r : Fin 8) (d : Fin 128) => (show Vec Ideal S8x128 .f32 from iblk m c 2 t) (ix2 r d))
    = HgrnRefIdeal.Hg.vs (m ((c : Thread nD τ).loc main_arg0)) (seq t) (head t) := by
  funext r d
  unfold HgrnRefIdeal.Hg.vs seq head
  blk_point [iblk, V, idx t]

theorem lbs_blk : (fun (d : Fin 128) => (show Vec Ideal S1x1x128 .f32 from iblk m c 4 t) (ix3 0 0 d))
    = HgrnRefIdeal.Hg.lbs (m ((c : Thread nD τ).loc main_arg1)) (head t) := by
  funext d
  unfold HgrnRefIdeal.Hg.lbs head
  blk_point [iblk, V, idx t]

theorem ss_blk : (fun (d e : Fin 128) => (show Vec Ideal S1x1x128x128 .f32 from iblk m c 6 t) (ix4 0 0 d e))
    = HgrnRefIdeal.Hg.ss (m ((c : Thread nD τ).loc main_arg3)) (seq t) (head t) := by
  funext d e
  unfold HgrnRefIdeal.Hg.ss seq head
  blk_point [iblk, V, idx t]

theorem bounds_blk (hb : Bounds (m ((c : Thread nD τ).loc main_arg1))) (d : Fin 128) :
    0 < HgrnRefIdeal.Hg.lbs (m ((c : Thread nD τ).loc main_arg1)) (head t) d
      ∧ HgrnRefIdeal.Hg.lbs (m ((c : Thread nD τ).loc main_arg1)) (head t) d < ⊤ := hb _

theorem emb8 (r : Fin 8) (e : Fin 128) : ((View.whole main_v2_0).slice (win0_8.rect t)).emb (ix2 r e)
    = ix2 (⟨seq t * 8 + r, by omega⟩ : Fin 256) (⟨head t * 128 + e, by omega⟩ : Fin 2048) := by
  unfold seq head
  blk_ext [idx t]

theorem emb9 (z z' : Fin 1) (d e : Fin 128) : ((View.whole main_v2_1).slice (win0_9.rect t)).emb (ix4 z z' d e)
    = ix4 (seq t) (head t) d e := by
  unfold seq head
  blk_ext [idx t]

end

theorem final8 (c : Dev nD) (hb : Bounds (m ((c : Thread nD τ).loc main_arg1))) : (dats m 0 c).arrAt 8 (cfgs 0).N
    = Cert.HgrnRefIdeal.Read.val_main_v87 (F := Ideal) (m ((c : Thread nD τ).loc main_arg0))
        (m ((c : Thread nD τ).loc main_arg1)) (m ((c : Thread nD τ).loc main_arg2)) (m ((c : Thread nD τ).loc main_arg3)) := by
  refine (dats m 0 c).arrAt_eq_of_covers 8 _ (by decide +kernel) fun t _ y => ?_
  idx_vars y
  blk_simp
  rw [after0_8]
  unfold outsAt0
  frame_out
  refine (out_at _ _ _ _ _ _ _ _ (table_at m c t) _ _).trans ?_
  rw [emb8]
  refine Eq.trans ?_ (HgrnRefIdeal.Hg.v87_at _ _ _ _ _ _ (seq t) (head t) y0 y1 rfl rfl).symm
  have ho := funext (outK_eq (HgrnRefIdeal.Hg.qs (m ((c : Thread nD τ).loc main_arg0)) (seq t) (head t))
    (HgrnRefIdeal.Hg.fs (m ((c : Thread nD τ).loc main_arg0)) (seq t) (head t))
    (HgrnRefIdeal.Hg.vs (m ((c : Thread nD τ).loc main_arg0)) (seq t) (head t))
    (HgrnRefIdeal.Hg.ss (m ((c : Thread nD τ).loc main_arg3)) (seq t) (head t)) (bounds_blk m c t hb) ⟨y0, by omega⟩)
  rw [← ho, ← qs_blk m c t, ← fs_blk m c t, ← vs_blk m c t, ← ss_blk m c t, ← lbs_blk m c t]
  unfold seq head
  refine congrArg₂ (fun a b : EReal => a * b) (congrArg₂ (fun a b : EReal => a * b) rfl ?_) ?_
  all_goals blk_point [iblk, V, idx t]

theorem final9 (c : Dev nD) (hb : Bounds (m ((c : Thread nD τ).loc main_arg1))) : (dats m 0 c).arrAt 9 (cfgs 0).N
    = Cert.HgrnRefIdeal.Read.val_main_v68 (F := Ideal) (m ((c : Thread nD τ).loc main_arg0))
        (m ((c : Thread nD τ).loc main_arg1)) (m ((c : Thread nD τ).loc main_arg3)) := by
  refine (dats m 0 c).arrAt_eq_of_covers 9 _ (by decide +kernel) fun t _ y => ?_
  idx_vars y
  blk_simp
  rw [after0_9]
  unfold outsAt0
  frame_out
  obtain rfl : y0 = 0 := Subsingleton.elim _ _
  obtain rfl : y1 = 0 := Subsingleton.elim _ _
  refine (state_at _ _ _ _ _ (table_at m c t) _ _).trans ?_
  rw [emb9]
  refine Eq.trans ?_ (HgrnRefIdeal.Hg.v68_at _ _ _ _ _ _ _).symm
  rw [← stateK_eq _ _ _ (bounds_blk m c t hb), ← fs_blk m c t, ← vs_blk m c t, ← ss_blk m c t, ← lbs_blk m c t]

end Cert.HgrnIdeal.Hg

end
-- ==== Proof.HgrnClaim.lean ====
module

public import proofs.«01_k».proof.Defs
public import proofs.«01_k».proof.Proof.HgrnValue
public import Idealize.ShloMosaic.Lib.Claim
public import Idealize.ShloMosaic.Lib.ReduceAll

/-! The claims about the recurrence call. -/

@[expose] public section

set_option maxRecDepth 16384

noncomputable section

namespace Cert.Proof

open Idealize.ShloMosaic Idealize.SL.Sem

attribute [local instance] Cert.HgrnIdeal.Gen.facts Cert.HgrnRefIdeal.Gen.facts

/-- The shape relations of the precondition's operations. -/
theorem bounds_facts : Cert.Pre_bounds_ok.Facts := ⟨by decide, by decide, by decide⟩

attribute [local instance] bounds_facts

/-- The reference runs and leaves its arguments; it declares no semaphore. -/
theorem hgrn_ref_frame : Cert.quiescent_HgrnRefIdeal := fun m g _ =>
  (θ_run Cert.HgrnRefIdeal.defs _ _).mono (fun r h => ⟨fun c => (h c).2.2, sem_eq_zero_of_no_sems (by decide) r.2⟩)
    (Cert.HgrnRefIdeal.Value.run m g)

theorem hgrn_ref_frame_bounds : Cert.quiescent_HgrnRefIdeal_pre_bounds_ok := fun m g _ => hgrn_ref_frame m g trivial

/-- The precondition says that the lower bounds are positive and finite. -/
theorem bounds_of {x0 : FVec Ideal Pre_bounds_ok.S256x8192 .f32} {x1 : FVec Ideal Pre_bounds_ok.S2048 .f32}
    {x2 : FVec Ideal Pre_bounds_ok.S16x128 .f32} {x3 : FVec Ideal Pre_bounds_ok.S32x16x128x128 .f32}
    (h : Cert.Pre_bounds_ok.fn (F := Ideal) x0 x1 x2 x3 = fun _ => 1#1) : Cert.HgrnIdeal.Hg.Bounds x1 := by
  intro i
  unfold Cert.Pre_bounds_ok.fn at h
  haveI : Subsingleton Pre_bounds_ok.S_.Idx := ⟨fun a b => funext fun d => d.elim0⟩
  have e := Host.reduce_andi_all _ _ _ _ _ (congrFun h ix0) (ix1 i)
  pointwise at e
  by_cases h0 : (0 : EReal) < x1 (ix1 i) <;> by_cases h1 : x1 (ix1 i) < (⊤ : EReal) <;>
    simp [h0, h1, IntOp.andi, Ideal.ofBits, Ideal.ieee] at e ⊢

/-- From equal arguments with lower bounds positive and finite the recurrence call and its reference end with equal arrays. -/
theorem hgrn_algebraic : Cert.algebraic_HgrnIdeal_HgrnRefIdeal_pre_bounds_ok := by
  pair_intro
  · run_from Cert.HgrnIdeal.Gen.run_main m g
  · run_from Cert.HgrnRefIdeal.Value.run m' g'
    · obtain ⟨h0, h1, h2, h3⟩ := hagree c
      rw [HgrnIdeal.Hg.final8 m c (bounds_of (hpre c)), HgrnRefIdeal.Read.val_main_v87_eq, h0, h1, h2, h3]
    · obtain ⟨h0, h1, h2, h3⟩ := hagree c
      rw [HgrnIdeal.Hg.final9 m c (bounds_of (hpre c)), HgrnRefIdeal.Read.val_main_v68_eq, h0, h1, h3]

end Cert.Proof

end
-- ==== Proof.SwigluWeights.lean ====
module

public import proofs.«01_k».proof.Proof.Gen.SwigluIdeal.Value
public import Idealize.ShloMosaic.Lib.Pipeline.ValueKit
public import Idealize.ShloMosaic.Lib.Pointwise

/-! The two weight scratches of the SwiGLU call: at every grid point they hold the weight
blocks of the point's own column tile, although they are written only at the first row tile. -/

@[expose] public section

set_option maxRecDepth 16384

noncomputable section

namespace Cert.SwigluIdeal.Sw

open Cert.SwigluIdeal Cert.SwigluIdeal.Gen Idealize.ShloMosaic Idealize.ShloMosaic.TcCoe Idealize.SL.Sem
open Idealize.ShloMosaic.Pipeline (Dat)

variable (m : (ℓ : Loc nD τ sig) → Buf (Elt Ideal) ℓ)

/-- Which block each window stages at point `t`: row tile `t % 8`, column tile `t / 8`; the second
    half of the weights starts eleven tiles further. -/
theorem idx : ∀ t : Fin cfg0.N, win0_0.index t = ![t.val % 8, 0] ∧ win0_1.index t = ![0, t.val / 8]
    ∧ win0_2.index t = ![0, 11 + t.val / 8] ∧ win0_3.index t = ![t.val % 8, t.val / 8] :=
  (by decide +kernel : ∀ t : Fin grid0.N, _)

/-- The rounding of a weight block is the identity over the ideal numbers. -/
theorem pay1_at (w : Vec Ideal S2048x512 .f32) (j : S2048x512.Idx) : k0_pay1 (F := Ideal) w j = w j := by
  pointwise [k0_pay1]

theorem pay2_at (w : Vec Ideal S2048x512 .f32) (j : S2048x512.Idx) : k0_pay2 (F := Ideal) w j = w j := by
  pointwise [k0_pay2]

/-- Two points of one column tile stage the same gate weights. -/
theorem gate_congr (c : Dev nD) (t u : Fin cfg0.N) (h : t.val / 8 = u.val / 8) (j : S2048x512.Idx) :
    iblk m c 1 t j = iblk m c 1 u j := by
  blk_point [iblk, V, idx t, idx u]

/-- Two points of one column tile stage the same up weights. -/
theorem up_congr (c : Dev nD) (t u : Fin cfg0.N) (h : t.val / 8 = u.val / 8) (j : S2048x512.Idx) :
    iblk m c 2 t j = iblk m c 2 u j := by
  blk_point [iblk, V, idx t, idx u]

/-- The gate scratch after point `n`. -/
theorem gate_at (c : Dev nD) : ∀ (n : ℕ) (h : n < cfg0.N) (j : S2048x512.Idx),
    (outsAt0 m c n h).2.1 j = iblk m c 1 ⟨n, h⟩ j := by
  intro n
  induction n with
  | zero =>
    intro h j
    rw [outsAt0_A m c ⟨0, h⟩ rfl]
    frame_out
    rw [pay1_at]
  | succ n ih =>
    intro h j
    by_cases h0 : (n + 1) % 8 = 0
    · rw [outsAt0_A m c ⟨n + 1, h⟩ h0]
      frame_out
      rw [pay1_at]
    · rw [outsAt0_B m c ⟨n + 1, h⟩ h0]
      show (outsAt0 m c n _).2.1 j = _
      rw [ih]
      exact gate_congr m c _ _ (by show n / 8 = (n + 1) / 8; omega) j

/-- The up scratch after point `n`. -/
theorem up_at (c : Dev nD) : ∀ (n : ℕ) (h : n < cfg0.N) (j : S2048x512.Idx),
    (outsAt0 m c n h).2.2 j = iblk m c 2 ⟨n, h⟩ j := by
  intro n
  induction n with
  | zero =>
    intro h j
    rw [outsAt0_A m c ⟨0, h⟩ rfl]
    frame_out
    rw [pay2_at]
  | succ n ih =>
    intro h j
    by_cases h0 : (n + 1) % 8 = 0
    · rw [outsAt0_A m c ⟨n + 1, h⟩ h0]
      frame_out
      rw [pay2_at]
    · rw [outsAt0_B m c ⟨n + 1, h⟩ h0]
      show (outsAt0 m c n _).2.2 j = _
      rw [ih]
      exact up_congr m c _ _ (by show n / 8 = (n + 1) / 8; omega) j

/-- What every point writes back, from its row block and the weight blocks of its column tile. -/
theorem out_at (c : Dev nD) (t : Fin cfg0.N) (j : S1024x512.Idx) :
    (outsAt0 m c t.val t.isLt).1 j = k0_pay3 (F := Ideal) (iblk m c 0 t) (iblk m c 1 t) (iblk m c 2 t) j := by
  by_cases h0 : t.val % 8 = 0
  · rw [outsAt0_A m c t h0]
    frame_out
    pointwise [k0_pay3, k0_pay1, k0_pay2]
  · rw [outsAt0_B m c t h0]
    frame_out
    rw [show _ = _ from (Memref.isWhole_whole cc0_scratch0).read_unread _, show _ = _ from (Memref.isWhole_whole cc0_scratch1).read_unread _]
    have hg : (outsAt0 m c (t.val - 1) (Nat.lt_of_le_of_lt (Nat.sub_le _ _) t.isLt)).2.1 = iblk m c 1 t :=
      funext fun i => (gate_at m c _ _ i).trans (gate_congr m c _ _ (by show (t.val - 1) / 8 = t.val / 8; omega) i)
    have hu : (outsAt0 m c (t.val - 1) (Nat.lt_of_le_of_lt (Nat.sub_le _ _) t.isLt)).2.2 = iblk m c 2 t :=
      funext fun i => (up_at m c _ _ i).trans (up_congr m c _ _ (by show (t.val - 1) / 8 = t.val / 8; omega) i)
    rw [hg, hu]

end Cert.SwigluIdeal.Sw

end
-- ==== Proof.SwigluValue.lean ====
module

public import proofs.«01_k».proof.Proof.SwigluWeights
public import proofs.«01_k».proof.Proof.Gen.SwigluRefIdeal.Read

/-! The SwiGLU call at one output element against the reference's element, and the whole array. -/

@[expose] public section

set_option maxRecDepth 16384

noncomputable section

open Idealize.ShloMosaic

/-- One element of the gated product: `a * σ(a) * u` for the two contractions `a`, `u` of a row with two columns. -/
def Cert.Sw.gated (x a u : Fin 2048 → EReal) : EReal :=
  (∑ k, x k * a k) * Ideal.logistic (∑ k, x k * a k) * ∑ k, x k * u k

namespace Cert.SwigluRefIdeal.Sw

open Cert.SwigluRefIdeal Cert.SwigluRefIdeal.Gen Cert.SwigluRefIdeal.Read Idealize.ShloMosaic Idealize.ShloMosaic.TcCoe

/-- The reference at one element: the two halves of the weights are `5632` columns apart. -/
theorem ref_at (x : Vec Ideal S8192x2048 .bf16) (w : Vec Ideal S2048x11264 .f32) (i : S8192x5632.Idx) :
    val_main_v6 (F := Ideal) x w i = Cert.Sw.gated (fun k => x (ix2 (i 0 : Fin 8192) k))
      (fun k => w (ix2 k ⟨(i 1).val, lt_of_lt_of_le (i 1 : Fin 5632).isLt (by decide)⟩))
      (fun k => w (ix2 k ⟨5632 + (i 1).val, Nat.add_lt_add_left (i 1 : Fin 5632).isLt 5632⟩)) := by
  pointwise [val_main_v6, val_main_v5, val_main_v4, val_main_v3, val_main_v2, val_main_v1, val_main_v0, val_main_call0_v5,
    val_main_call0_v4, val_main_call0_v3, val_main_call0_v2, val_main_call0_v1, val_main_call0_v0, val_main_call0_cst, val_main_call0_cst_0]
  rfl

end Cert.SwigluRefIdeal.Sw

namespace Cert.SwigluIdeal.Sw

open Cert.SwigluIdeal Cert.SwigluIdeal.Gen Idealize.ShloMosaic Idealize.ShloMosaic.TcCoe Idealize.SL.Sem
open Idealize.ShloMosaic.Pipeline (Dat)

/-- The body's stored value at one element of the block. -/
theorem pay3_at (x : Vec Ideal S1024x2048 .bf16) (a u : Vec Ideal S2048x512 .bf16) (r : Fin 1024) (l : Fin 512) :
    k0_pay3 (F := Ideal) x a u (ix2 r l) = Cert.Sw.gated (fun k => x (ix2 r k)) (fun k => a (ix2 k l)) (fun k => u (ix2 k l)) := by
  pointwise [k0_pay3]
  rfl

variable (m : (ℓ : Loc nD τ sig) → Buf (Elt Ideal) ℓ)

/-- The output array after the run is the reference's array. -/
theorem final (c : Dev nD) : (dats m 0 c).arrAt 3 (cfgs 0).N
    = Cert.SwigluRefIdeal.Read.val_main_v6 (F := Ideal) (m ((c : Thread nD τ).loc main_arg0)) (m ((c : Thread nD τ).loc main_arg1)) := by
  refine (dats m 0 c).arrAt_eq_of_covers 3 _ (by decide +kernel) fun t _ y => ?_
  idx_vars y
  blk_simp
  rw [after0_3, out_at]
  refine (pay3_at _ _ _ _ _).trans ?_
  rw [Cert.SwigluRefIdeal.Sw.ref_at]
  congr 1
  all_goals
    funext k
    blk_point [iblk, V, idx t]

end Cert.SwigluIdeal.Sw

end
-- ==== Proof.SwigluClaim.lean ====
module

public import proofs.«01_k».proof.Defs
public import proofs.«01_k».proof.Proof.SwigluValue
public import Idealize.ShloMosaic.Lib.Claim

/-! The claims about the SwiGLU call. -/

@[expose] public section

set_option maxRecDepth 16384

noncomputable section

namespace Cert.Proof

open Idealize.ShloMosaic Idealize.SL.Sem

attribute [local instance] Cert.SwigluIdeal.Gen.facts Cert.SwigluRefIdeal.Gen.facts

/-- The reference runs and leaves its arguments; it declares no semaphore. -/
theorem swiglu_ref_frame : Cert.quiescent_SwigluRefIdeal := fun m g _ =>
  (θ_run Cert.SwigluRefIdeal.defs _ _).mono (fun r h => ⟨fun c => (h c).2, sem_eq_zero_of_no_sems (by decide) r.2⟩)
    (Cert.SwigluRefIdeal.Value.run m g)

/-- From equal arguments the SwiGLU call and its reference end with equal arrays. -/
theorem swiglu_algebraic : Cert.algebraic_SwigluIdeal_SwigluRefIdeal := by
  pair_intro
  · run_from Cert.SwigluIdeal.Gen.run_main m g
  · run_from Cert.SwigluRefIdeal.Value.run m' g'
    exact (Cert.SwigluIdeal.Sw.final m c).symm

end Cert.Proof

end
-- ==== Proof.Carry.lean ====
module

public import Idealize.ShloMosaic.Lib.Pipeline.ValueKit

/-! A scratch that is filled at the first point of every run of grid points and read at the others. -/

@[expose] public section

namespace Cert.Proof

/-- A value that is set to `B` at the points divisible by `P` and kept at the others is `B` at every point, when
    `B` is the same throughout a run of `P` points. -/
theorem carried {α : Type*} {N P : ℕ} (hP : 0 < P) (S B : (n : ℕ) → n < N → α)
    (hset : ∀ n h, n % P = 0 → S n h = B n h)
    (hkeep : ∀ n h, ¬(n + 1) % P = 0 → S (n + 1) h = S n (Nat.lt_of_succ_lt h))
    (hrun : ∀ n h n' h', n / P = n' / P → B n h = B n' h') : ∀ n h, S n h = B n h := by
  intro n
  induction n with
  | zero => exact fun h => hset 0 h (Nat.zero_mod P)
  | succ n ih =>
    intro h
    by_cases h0 : (n + 1) % P = 0
    · exact hset _ h h0
    · rw [hkeep n h h0, ih]
      refine hrun _ _ _ _ ?_
      rw [Nat.succ_div, if_neg (fun hd => h0 (Nat.dvd_iff_mod_eq_zero.mp hd)), Nat.add_zero]

end Cert.Proof

end
-- ==== Proof.InProjValue.lean ====
module

public import proofs.«01_k».proof.Proof.Carry
public import proofs.«01_k».proof.Proof.Gen.InProjIdeal.Value
public import proofs.«01_k».proof.Proof.Gen.InProjRefIdeal.Read
public import Idealize.ShloMosaic.Lib.Pointwise

/-! The recurrence's input projection: the array that the call leaves is the product. -/

@[expose] public section

set_option maxRecDepth 16384

noncomputable section

namespace Cert.InProjIdeal.Mm

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- Which block each window stages at point `t`: row tile `t % 8`, column tile `t / 8`. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- Rounding a weight block changes nothing over the ideal numbers. -/
theorem pay1_eq (w : Vec Ideal S2048x512 .f32) : k0_pay1 (F := Ideal) w = w := by
  funext j
  pointwise [k0_pay1]

/-- The weight scratch holds at every point the weight block of the point's column tile. -/
theorem weights_at (c : Dev nD) : ∀ (n : ℕ) (h : n < cfg0.N),
    (outsAt0 m c n h).2 = (iblk m c 1 ⟨n, h⟩ : S2048x512.Idx → EReal) := by
  refine Cert.Proof.carried (P := 8) (by decide) (fun n h => (outsAt0 m c n h).2) (fun n h => iblk m c 1 ⟨n, h⟩)
    (fun n h h0 => ?_) (fun n h h0 => ?_) (fun n h n' h' e => ?_)
  · funext j
    rw [outsAt0_A m c ⟨n, h⟩ h0]
    frame_out
    rw [pay1_eq]
  · rw [outsAt0_B m c ⟨n + 1, h⟩ h0]
    rfl
  · funext j
    blk_point [iblk, V, idx ⟨n, h⟩, idx ⟨n', h'⟩]

/-- What every point writes back, from its row block and the weight block of its column tile. -/
theorem out_at (c : Dev nD) (t : Fin cfg0.N) (j : S1024x512.Idx) :
    (outsAt0 m c t.val t.isLt).1 j = k0_pay2 (F := Ideal) (iblk m c 0 t) (iblk m c 1 t) j := by
  by_cases h0 : t.val % 8 = 0
  · rw [outsAt0_A m c t h0]
    frame_out
    rw [pay1_eq]
  · have e := weights_at m c t.val t.isLt
    rw [outsAt0_B m c t h0] at e ⊢
    frame_out
    rw [show _ = _ from (Memref.isWhole_whole cc0_scratch0).read_unread _]
    exact congrArg (fun w => k0_pay2 (F := Ideal) (iblk m c 0 t) w j) e

/-- The output array after the run is the reference's array. -/
theorem final (c : Dev nD) : (dats m 0 c).arrAt 2 (cfgs 0).N
    = Cert.InProjRefIdeal.Read.val_main_v1 (F := Ideal) (m ((c : Thread nD τ).loc main_arg0)) (m ((c : Thread nD τ).loc main_arg1)) := by
  refine (dats m 0 c).arrAt_eq_of_covers 2 _ (by decide +kernel) fun t _ y => ?_
  idx_vars y
  blk_simp
  rw [after0_2, out_at]
  pointwise [k0_pay2, Cert.InProjRefIdeal.Read.val_main_v1, Cert.InProjRefIdeal.Read.val_main_v0]
  blk_point [iblk, V, idx t]

end Cert.InProjIdeal.Mm

end
-- ==== Proof.KvProjValue.lean ====
module

public import proofs.«01_k».proof.Proof.Carry
public import proofs.«01_k».proof.Proof.Gen.KvProjIdeal.Value
public import proofs.«01_k».proof.Proof.Gen.KvProjRefIdeal.Read
public import Idealize.ShloMosaic.Lib.Pointwise

/-! The projection to the shared keys and values: the array that the call leaves is the product. -/

@[expose] public section

set_option maxRecDepth 16384

noncomputable section

namespace Cert.KvProjIdeal.Mm

open Cert.KvProjIdeal Cert.KvProjIdeal.Gen Idealize.ShloMosaic Idealize.ShloMosaic.TcCoe Idealize.SL.Sem
open Idealize.ShloMosaic.Pipeline (Dat)

variable (m : (ℓ : Loc nD τ sig) → Buf (Elt Ideal) ℓ)

/-- Which block each window stages at point `t`: row tile `t % 8`, column tile `t / 8`. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- Rounding a weight block changes nothing over the ideal numbers. -/
theorem pay1_eq (w : Vec Ideal S2048x512 .f32) : k0_pay1 (F := Ideal) w = w := by
  funext j
  pointwise [k0_pay1]

/-- The weight scratch holds at every point the weight block of the point's column tile. -/
theorem weights_at (c : Dev nD) : ∀ (n : ℕ) (h : n < cfg0.N),
    (outsAt0 m c n h).2 = (iblk m c 1 ⟨n, h⟩ : S2048x512.Idx → EReal) := by
  refine Cert.Proof.carried (P := 8) (by decide) (fun n h => (outsAt0 m c n h).2) (fun n h => iblk m c 1 ⟨n, h⟩)
    (fun n h h0 => ?_) (fun n h h0 => ?_) (fun n h n' h' e => ?_)
  · funext j
    rw [outsAt0_A m c ⟨n, h⟩ h0]
    frame_out
    rw [pay1_eq]
  · rw [outsAt0_B m c ⟨n + 1, h⟩ h0]
    rfl
  · funext j
    blk_point [iblk, V, idx ⟨n, h⟩, idx ⟨n', h'⟩]

/-- What every point writes back, from its row block and the weight block of its column tile. -/
theorem out_at (c : Dev nD) (t : Fin cfg0.N) (j : S1024x512.Idx) :
    (outsAt0 m c t.val t.isLt).1 j = k0_pay2 (F := Ideal) (iblk m c 0 t) (iblk m c 1 t) j := by
  by_cases h0 : t.val % 8 = 0
  · rw [outsAt0_A m c t h0]
    frame_out
    rw [pay1_eq]
  · have e := weights_at m c t.val t.isLt
    rw [outsAt0_B m c t h0] at e ⊢
    frame_out
    rw [show _ = _ from (Memref.isWhole_whole cc0_scratch0).read_unread _]
    exact congrArg (fun w => k0_pay2 (F := Ideal) (iblk m c 0 t) w j) e

/-- The output array after the run is the reference's array. -/
theorem final (c : Dev nD) : (dats m 0 c).arrAt 2 (cfgs 0).N
    = Cert.KvProjRefIdeal.Read.val_main_v1 (F := Ideal) (m ((c : Thread nD τ).loc main_arg0)) (m ((c : Thread nD τ).loc main_arg1)) := by
  refine (dats m 0 c).arrAt_eq_of_covers 2 _ (by decide +kernel) fun t _ y => ?_
  idx_vars y
  blk_simp
  rw [after0_2, out_at]
  pointwise [k0_pay2, Cert.KvProjRefIdeal.Read.val_main_v1, Cert.KvProjRefIdeal.Read.val_main_v0]
  blk_point [iblk, V, idx t]

end Cert.KvProjIdeal.Mm

end
-- ==== Proof.QProjValue.lean ====
module

public import proofs.«01_k».proof.Proof.Carry
public import proofs.«01_k».proof.Proof.Gen.QProjIdeal.Value
public import proofs.«01_k».proof.Proof.Gen.QProjRefIdeal.Read
public import Idealize.ShloMosaic.Lib.Pointwise

/-! The attention's queries: the array that the call leaves is the scaled product. -/

@[expose] public section

set_option maxRecDepth 16384

noncomputable section

namespace Cert.QProjIdeal.Mm

open Cert.QProjIdeal Cert.QProjIdeal.Gen Idealize.ShloMosaic Idealize.ShloMosaic.TcCoe Idealize.SL.Sem
open Idealize.ShloMosaic.Pipeline (Dat)

variable (m : (ℓ : Loc nD τ sig) → Buf (Elt Ideal) ℓ)

/-- Which block each window stages at point `t`: row tile `t % 8`, column tile `t / 8`. -/
theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- Rounding a weight block changes nothing over the ideal numbers. -/
theorem pay1_eq (w : Vec Ideal S2048x512 .f32) : k0_pay1 (F := Ideal) w = w := by
  funext j
  pointwise [k0_pay1]

/-- The weight scratch holds at every point the weight block of the point's column tile. -/
theorem weights_at (c : Dev nD) : ∀ (n : ℕ) (h : n < cfg0.N),
    (outsAt0 m c n h).2 = (iblk m c 1 ⟨n, h⟩ : S2048x512.Idx → EReal) := by
  refine Cert.Proof.carried (P := 8) (by decide) (fun n h => (outsAt0 m c n h).2) (fun n h => iblk m c 1 ⟨n, h⟩)
    (fun n h h0 => ?_) (fun n h h0 => ?_) (fun n h n' h' e => ?_)
  · funext j
    rw [outsAt0_A m c ⟨n, h⟩ h0]
    frame_out
    rw [pay1_eq]
  · rw [outsAt0_B m c ⟨n + 1, h⟩ h0]
    rfl
  · funext j
    blk_point [iblk, V, idx ⟨n, h⟩, idx ⟨n', h'⟩]

/-- What every point writes back, from its row block and the weight block of its column tile. -/
theorem out_at (c : Dev nD) (t : Fin cfg0.N) (j : S1024x512.Idx) :
    (outsAt0 m c t.val t.isLt).1 j = k0_pay2 (F := Ideal) (iblk m c 0 t) (iblk m c 1 t) j := by
  by_cases h0 : t.val % 8 = 0
  · rw [outsAt0_A m c t h0]
    frame_out
    rw [pay1_eq]
  · have e := weights_at m c t.val t.isLt
    rw [outsAt0_B m c t h0] at e ⊢
    frame_out
    rw [show _ = _ from (Memref.isWhole_whole cc0_scratch0).read_unread _]
    exact congrArg (fun w => k0_pay2 (F := Ideal) (iblk m c 0 t) w j) e

/-- The output array after the run is the reference's array. -/
theorem final (c : Dev nD) : (dats m 0 c).arrAt 2 (cfgs 0).N
    = Cert.QProjRefIdeal.Read.val_main_v3 (F := Ideal) (m ((c : Thread nD τ).loc main_arg0)) (m ((c : Thread nD τ).loc main_arg1)) := by
  refine (dats m 0 c).arrAt_eq_of_covers 2 _ (by decide +kernel) fun t _ y => ?_
  idx_vars y
  blk_simp
  rw [after0_2, out_at]
  pointwise [k0_pay2, Cert.QProjRefIdeal.Read.val_main_v3, Cert.QProjRefIdeal.Read.val_main_v2, Cert.QProjRefIdeal.Read.val_main_cst,
    Cert.QProjRefIdeal.Read.val_main_v1, Cert.QProjRefIdeal.Read.val_main_v0]
  blk_point [iblk, V, idx t]

end Cert.QProjIdeal.Mm

end
-- ==== Proof.ProjClaim.lean ====
module

public import proofs.«01_k».proof.Defs
public import proofs.«01_k».proof.Proof.InProjValue
public import proofs.«01_k».proof.Proof.KvProjValue
public import proofs.«01_k».proof.Proof.QProjValue
public import Idealize.ShloMosaic.Lib.Claim

/-! The claims about the three projections. -/

@[expose] public section

set_option maxRecDepth 16384

noncomputable section

namespace Cert.Proof

open Idealize.ShloMosaic Idealize.SL.Sem

section InProj

attribute [local instance] Cert.InProjIdeal.Gen.facts Cert.InProjRefIdeal.Gen.facts

/-- The reference runs and leaves its arguments; it declares no semaphore. -/
theorem inProj_ref_frame : Cert.quiescent_InProjRefIdeal := fun m g _ =>
  (θ_run Cert.InProjRefIdeal.defs _ _).mono (fun r h => ⟨fun c => (h c).2, sem_eq_zero_of_no_sems (by decide) r.2⟩)
    (Cert.InProjRefIdeal.Value.run m g)

/-- The recurrence's input projection is the product. -/
theorem inProj_algebraic : Cert.algebraic_InProjIdeal_InProjRefIdeal := by
  pair_intro
  · run_from Cert.InProjIdeal.Gen.run_main m g
  · run_from Cert.InProjRefIdeal.Value.run m' g'
    exact (Cert.InProjIdeal.Mm.final m c).symm

end InProj

section KvProj

attribute [local instance] Cert.KvProjIdeal.Gen.facts Cert.KvProjRefIdeal.Gen.facts

/-- The reference runs and leaves its arguments; it declares no semaphore. -/
theorem kvProj_ref_frame : Cert.quiescent_KvProjRefIdeal := fun m g _ =>
  (θ_run Cert.KvProjRefIdeal.defs _ _).mono (fun r h => ⟨fun c => (h c).2, sem_eq_zero_of_no_sems (by decide) r.2⟩)
    (Cert.KvProjRefIdeal.Value.run m g)

/-- The projection to keys and values is the product. -/
theorem kvProj_algebraic : Cert.algebraic_KvProjIdeal_KvProjRefIdeal := by
  pair_intro
  · run_from Cert.KvProjIdeal.Gen.run_main m g
  · run_from Cert.KvProjRefIdeal.Value.run m' g'
    exact (Cert.KvProjIdeal.Mm.final m c).symm

end KvProj

section QProj

attribute [local instance] Cert.QProjIdeal.Gen.facts Cert.QProjRefIdeal.Gen.facts

/-- The reference runs and leaves its arguments; it declares no semaphore. -/
theorem qProj_ref_frame : Cert.quiescent_QProjRefIdeal := fun m g _ =>
  (θ_run Cert.QProjRefIdeal.defs _ _).mono (fun r h => ⟨fun c => (h c).2, sem_eq_zero_of_no_sems (by decide) r.2⟩)
    (Cert.QProjRefIdeal.Value.run m g)

/-- The query projection is the scaled product. -/
theorem qProj_algebraic : Cert.algebraic_QProjIdeal_QProjRefIdeal := by
  pair_intro
  · run_from Cert.QProjIdeal.Gen.run_main m g
  · run_from Cert.QProjRefIdeal.Value.run m' g'
    exact (Cert.QProjIdeal.Mm.final m c).symm

end QProj

end Cert.Proof

end
-- ==== Proof.NormMath.lean ====
module

public import Idealize.ShloMosaic.Lib.Pointwise

/-! One row of a residual sum under layer norm, over the extended reals. -/

@[expose] public section

noncomputable section

namespace Cert.Ln

open Idealize.ShloMosaic

/-- One element of the residual sum: the scaled stream and the gated sub-layer's output. -/
def residual (x gate a : EReal) : EReal := Ideal.ofBits .f32 0x3FB504F3#32 * x + (1 + gate) * a

/-- The mean of a row. -/
def mean (r : Fin 2048 → EReal) : EReal := Ideal.div (∑ k, r k) (Ideal.ofBits .f32 0x45000000#32)

/-- One element of a row's layer norm with scale `g` and offset `b`. -/
def normed (r : Fin 2048 → EReal) (g b : EReal) (l : Fin 2048) : EReal :=
  (r l - mean r) * Ideal.rsqrt (mean (fun k => (r k - mean r) * (r k - mean r)) + Ideal.ofBits .f32 0x3727C5AC#32) * g + b

/-- One modulated element. -/
def modulated (y scale shift : EReal) : EReal := y * (1 + scale) + shift

end Cert.Ln

end
-- ==== Proof.FfnLastValue.lean ====
module

public import proofs.«01_k».proof.Proof.NormMath
public import proofs.«01_k».proof.Proof.Gen.FfnLastIdeal.Value
public import proofs.«01_k».proof.Proof.Gen.FfnLastRefIdeal.Read
public import Idealize.ShloMosaic.Lib.Pipeline.ValueKit

/-! The last feed-forward product with its residual sum and layer norm: the array that the call leaves. -/

@[expose] public section

set_option maxRecDepth 16384

noncomputable section

namespace Cert.FfnLastRefIdeal.Ln

open Cert.FfnLastRefIdeal Cert.FfnLastRefIdeal.Gen Cert.FfnLastRefIdeal.Read Idealize.ShloMosaic Idealize.ShloMosaic.TcCoe

variable (x0 : Vec Ideal S8192x5632 .bf16) (x1 : Vec Ideal S5632x2048 .f32) (x2 : Vec Ideal S8192x2048 .f32)
  (x3 : Vec Ideal S4x1x2048 .f32) (x4 x5 : Vec Ideal S2048 .f32)

/-- The row of the residual sum, with the whole contraction. -/
abbrev row (r : Fin 8192) (k : Fin 2048) : EReal :=
  Cert.Ln.residual (x2 (ix2 r k)) (x3 (ix3 ⟨r.val / 2048, by omega⟩ 0 k)) (∑ j, x0 (ix2 r j) * x1 (ix2 j k))

/-- The reference at one element. -/
theorem ref_at (r : Fin 8192) (l : Fin 2048) : val_main_v35 (F := Ideal) x0 x1 x2 x3 x4 x5 (ix2 r l)
    = Cert.Ln.normed (row x0 x1 x2 x3 r) (x4 (ix1 l)) (x5 (ix1 l)) l := by
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22, val_main_v23,
    val_main_v24, val_main_v25, val_main_v26, val_main_v27, val_main_v28, val_main_v29, val_main_v30, val_main_v31,
    val_main_v32, val_main_v33, val_main_v34, val_main_v35, val_main_cst, val_main_cst_0, val_main_cst_1, val_main_cst_2,
    val_main_cst_3, val_main_cst_4, val_main_cst_5]
  rfl

end Cert.FfnLastRefIdeal.Ln

namespace Cert.FfnLastIdeal.Ln

open Cert.FfnLastIdeal Cert.FfnLastIdeal.Gen Idealize.ShloMosaic Idealize.ShloMosaic.TcCoe Idealize.SL.Sem
open Idealize.ShloMosaic.Pipeline (Dat)

/-- Which block each window stages at point `t`: row tile `t / 11`, contraction tile `t % 11`; a sequence has four row tiles. -/
theorem idx : ∀ t : Fin cfg0.N, win0_0.index t = ![t.val / 11, t.val % 11] ∧ win0_1.index t = ![t.val % 11, 0]
    ∧ win0_2.index t = ![t.val / 11, 0] ∧ win0_3.index t = ![t.val / 44, 0, 0] ∧ win0_4.index t = ![0, 0]
    ∧ win0_5.index t = ![0, 0] ∧ win0_6.index t = ![t.val / 11, 0] :=
  (by decide +kernel : ∀ t : Fin grid0.N, _)

/-- One accumulation step at an element. -/
theorem step_at (x : Vec Ideal S512x2048 .f32) (a : Vec Ideal S512x512 .bf16) (w : Vec Ideal S512x2048 .f32) (r : Fin 512)
    (l : Fin 2048) : k0_pay2 (F := Ideal) x a w (ix2 r l) = x (ix2 r l) + ∑ k, a (ix2 r k) * w (ix2 k l) := by
  pointwise [k0_pay2]

theorem zero_at (j : S512x2048.Idx) : k0_pay1 (F := Ideal) j = 0 := by
  pointwise [k0_pay1]

/-- The normed residual sum at an element. -/
theorem norm_at (x : Vec Ideal S512x2048 .f32) (g : Vec Ideal S1x1x2048 .f32) (a : Vec Ideal S512x2048 .f32)
    (lg lb : Vec Ideal S1x2048 .f32) (r : Fin 512) (l : Fin 2048) : k0_pay3 (F := Ideal) x g a lg lb (ix2 r l)
    = Cert.Ln.normed (fun k => Cert.Ln.residual (x (ix2 r k)) (g (ix3 0 0 k)) (a (ix2 r k))) (lg (ix2 0 l)) (lb (ix2 0 l)) l := by
  pointwise [k0_pay3]
  rfl

variable (m : (ℓ : Loc nD τ sig) → Buf (Elt Ideal) ℓ)

/-- The contraction of one point's tiles. -/
def part (c : Dev nD) (t : Fin cfg0.N) (j : S512x2048.Idx) : EReal :=
  ∑ k, (show Vec Ideal S512x512 .bf16 from iblk m c 0 t) (ix2 (j 0 : Fin 512) k)
    * (show Vec Ideal S512x2048 .f32 from iblk m c 1 t) (ix2 k (j 1 : Fin 2048))

/-- At a run's last point the accumulator holds the whole contraction of its row tile. -/
theorem acc_at (c : Dev nD) (t : Fin cfg0.N) (ht : t.val % 11 = 10) (r : Fin 512) (l : Fin 2048) :
    (outsAt0 m c t.val t.isLt).2 (ix2 r l)
      = ∑ k : Fin 5632, (show Vec Ideal S8192x5632 .bf16 from m ((c : Thread nD τ).loc main_arg0))
          (ix2 ⟨t.val / 11 * 512 + r.val, by have := lt_of_lt_of_eq t.isLt N_0; omega⟩ k)
        * (show Vec Ideal S5632x2048 .f32 from m ((c : Thread nD τ).loc main_arg1)) (ix2 k l) := by
  rw [Pipeline.eq_sum_fin_of_reset_step_apply_of_flush (fun n h => (outsAt0 m c n h).2) 11 (fun _ => 0) (part m c)
    (fun t h j => by
      idx_vars j
      rw [outsAt0_A m c t h (by omega)]
      frame_out
      rw [step_at, zero_at]
      rfl)
    (fun t h j => by
      idx_vars j
      by_cases h1 : t.val % 11 = 10
      · rw [outsAt0_C m c t h h1]
        frame_out
        rw [step_at, show _ = _ from (Memref.isWhole_whole cc0_scratch0).read_unread _]
        rfl
      · rw [outsAt0_B m c t h h1]
        frame_out
        rw [step_at, show _ = _ from (Memref.isWhole_whole cc0_scratch0).read_unread _]
        rfl) t ht _, zero_add]
  unfold part
  refine Fin.sum_mul_add_congr fun s k hl => ?_
  blk_point [iblk, V, idx t, idx ⟨_, Pipeline.run_point_lt_of_flush t ht s⟩]

/-- What a run's last point writes back, over the accumulator that it leaves. -/
theorem out_at (c : Dev nD) (t : Fin cfg0.N) (ht : t.val % 11 = 10) (r : Fin 512) (l : Fin 2048) :
    (outsAt0 m c t.val t.isLt).1 (ix2 r l)
      = Cert.Ln.normed (fun k => Cert.Ln.residual ((show Vec Ideal S512x2048 .f32 from iblk m c 2 t) (ix2 r k))
          ((show Vec Ideal S1x1x2048 .f32 from iblk m c 3 t) (ix3 0 0 k)) ((outsAt0 m c t.val t.isLt).2 (ix2 r k)))
        ((show Vec Ideal S1x2048 .f32 from iblk m c 4 t) (ix2 0 l)) ((show Vec Ideal S1x2048 .f32 from iblk m c 5 t) (ix2 0 l)) l := by
  rw [outsAt0_C m c t (by omega) ht]
  frame_out
  rw [norm_at]

/-- The output array after the run is the reference's array. -/
theorem final (c : Dev nD) : (dats m 0 c).arrAt 6 (cfgs 0).N
    = Cert.FfnLastRefIdeal.Read.val_main_v35 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have ht := (flush0_6 t).mp hf
  idx_vars y
  blk_simp
  rw [after0_6, out_at m c t ht]
  rw [show (win0_6.blk t).view.emb (ix2 y0 y1)
      = ix2 (⟨t.val / 11 * 512 + y0.val, by have := lt_of_lt_of_eq t.isLt N_0; omega⟩ : Fin 8192) y1 from by blk_ext [idx t],
    Cert.FfnLastRefIdeal.Ln.ref_at]
  congr 1
  · funext k
    rw [acc_at m c t ht]
    blk_point [iblk, V, idx t]
  all_goals blk_point [iblk, V, idx t]

end Cert.FfnLastIdeal.Ln

end
-- ==== Proof.FfnFirstValue.lean ====
module

public import proofs.«01_k».proof.Proof.NormMath
public import proofs.«01_k».proof.Proof.Gen.FfnFirstIdeal.Value
public import proofs.«01_k».proof.Proof.Gen.FfnFirstRefIdeal.Read
public import Idealize.ShloMosaic.Lib.Pipeline.ValueKit

/-! The first layer's last feed-forward product with its residual sum, layer norm and two modulations: the arrays that the call leaves. -/

@[expose] public section

set_option maxRecDepth 16384

noncomputable section

namespace Cert.FfnFirstRefIdeal.Ln

open Cert.FfnFirstRefIdeal Cert.FfnFirstRefIdeal.Gen Cert.FfnFirstRefIdeal.Read Idealize.ShloMosaic Idealize.ShloMosaic.TcCoe

variable (x0 : Vec Ideal S8192x5632 .bf16) (x1 : Vec Ideal S5632x2048 .f32) (x2 : Vec Ideal S8192x2048 .f32)
  (x3 : Vec Ideal S4x1x2048 .f32) (x4 x5 : Vec Ideal S2048 .f32) (x6 x7 x8 x9 : Vec Ideal S4x1x2048 .f32)

/-- The row of the residual sum, with the whole contraction. -/
abbrev row (r : Fin 8192) (k : Fin 2048) : EReal :=
  Cert.Ln.residual (x2 (ix2 r k)) (x3 (ix3 ⟨r.val / 2048, by omega⟩ 0 k)) (∑ j, x0 (ix2 r j) * x1 (ix2 j k))

/-- The reference at one element. -/
theorem ref_at (r : Fin 8192) (l : Fin 2048) : val_main_v47 (F := Ideal) x0 x1 x2 x3 x4 x5 (ix2 r l)
    = Cert.Ln.normed (row x0 x1 x2 x3 r) (x4 (ix1 l)) (x5 (ix1 l)) l := by
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22, val_main_v23,
    val_main_v24, val_main_v25, val_main_v26, val_main_v27, val_main_v28, val_main_v29, val_main_v30, val_main_v31,
    val_main_v32, val_main_v33, val_main_v34, val_main_v47, val_main_cst, val_main_cst_0, val_main_cst_1, val_main_cst_2,
    val_main_cst_3, val_main_cst_4, val_main_cst_5]
  rfl

/-- The reference's modulated rows for the part that reads them next. -/
theorem mod0_ref_at (r : Fin 8192) (l : Fin 2048) : val_main_v49 (F := Ideal) x0 x1 x2 x3 x4 x5 x6 x7 (ix2 r l)
    = Cert.Ln.modulated (val_main_v47 (F := Ideal) x0 x1 x2 x3 x4 x5 (ix2 r l))
      (x6 (ix3 ⟨r.val / 2048, by omega⟩ 0 l)) (x7 (ix3 ⟨r.val / 2048, by omega⟩ 0 l)) := by
  pointwise [val_main_v35, val_main_v36, val_main_v37, val_main_v38, val_main_v39, val_main_v40, val_main_v48, val_main_v49, val_main_cst_6, val_main_v47]
  rfl

/-- The reference's modulated rows for the part that reads them next. -/
theorem mod1_ref_at (r : Fin 8192) (l : Fin 2048) : val_main_v51 (F := Ideal) x0 x1 x2 x3 x4 x5 x8 x9 (ix2 r l)
    = Cert.Ln.modulated (val_main_v47 (F := Ideal) x0 x1 x2 x3 x4 x5 (ix2 r l))
      (x8 (ix3 ⟨r.val / 2048, by omega⟩ 0 l)) (x9 (ix3 ⟨r.val / 2048, by omega⟩ 0 l)) := by
  pointwise [val_main_v41, val_main_v42, val_main_v43, val_main_v44, val_main_v45, val_main_v46, val_main_v50, val_main_v51, val_main_cst_7, val_main_v47]
  rfl

end Cert.FfnFirstRefIdeal.Ln

namespace Cert.FfnFirstIdeal.Ln

open Cert.FfnFirstIdeal Cert.FfnFirstIdeal.Gen Idealize.ShloMosaic Idealize.ShloMosaic.TcCoe Idealize.SL.Sem
open Idealize.ShloMosaic.Pipeline (Dat)

/-- Which block each window stages at point `t`: row tile `t / 11`, contraction tile `t % 11`; a sequence has four row tiles. -/
theorem idx : ∀ t : Fin cfg0.N, win0_0.index t = ![t.val / 11, t.val % 11] ∧ win0_1.index t = ![t.val % 11, 0]
    ∧ win0_2.index t = ![t.val / 11, 0] ∧ win0_3.index t = ![t.val / 44, 0, 0] ∧ win0_4.index t = ![0, 0]
    ∧ win0_5.index t = ![0, 0] ∧ win0_6.index t = ![t.val / 44, 0, 0] ∧ win0_7.index t = ![t.val / 44, 0, 0] ∧ win0_8.index t = ![t.val / 44, 0, 0] ∧ win0_9.index t = ![t.val / 44, 0, 0]
    ∧ win0_10.index t = ![t.val / 11, 0] ∧ win0_11.index t = ![t.val / 11, 0] ∧ win0_12.index t = ![t.val / 11, 0] :=
  (by decide +kernel : ∀ t : Fin grid0.N, _)

/-- One accumulation step at an element. -/
theorem step_at (x : Vec Ideal S512x2048 .f32) (a : Vec Ideal S512x512 .bf16) (w : Vec Ideal S512x2048 .f32) (r : Fin 512)
    (l : Fin 2048) : k0_pay2 (F := Ideal) x a w (ix2 r l) = x (ix2 r l) + ∑ k, a (ix2 r k) * w (ix2 k l) := by
  pointwise [k0_pay2]

theorem zero_at (j : S512x2048.Idx) : k0_pay1 (F := Ideal) j = 0 := by
  pointwise [k0_pay1]

/-- The normed residual sum at an element. -/
theorem norm_at (x : Vec Ideal S512x2048 .f32) (g : Vec Ideal S1x1x2048 .f32) (a : Vec Ideal S512x2048 .f32)
    (lg lb : Vec Ideal S1x2048 .f32) (r : Fin 512) (l : Fin 2048) : k0_pay5 (F := Ideal) x g a lg lb (ix2 r l)
    = Cert.Ln.normed (fun k => Cert.Ln.residual (x (ix2 r k)) (g (ix3 0 0 k)) (a (ix2 r k))) (lg (ix2 0 l)) (lb (ix2 0 l)) l := by
  pointwise [k0_pay5]
  rfl

/-- The modulated element. -/
theorem mod0_at (y : FVec Ideal S512x2048 .f32) (s h : Vec Ideal S1x1x2048 .f32) (r : Fin 512) (l : Fin 2048) :
    k0_pay3 (F := Ideal) y s h (ix2 r l) = Cert.Ln.modulated (y (ix2 r l)) (s (ix3 0 0 l)) (h (ix3 0 0 l)) := by
  pointwise [k0_pay3]
  rfl

/-- The modulated element. -/
theorem mod1_at (y : FVec Ideal S512x2048 .f32) (s h : Vec Ideal S1x1x2048 .f32) (r : Fin 512) (l : Fin 2048) :
    k0_pay4 (F := Ideal) y s h (ix2 r l) = Cert.Ln.modulated (y (ix2 r l)) (s (ix3 0 0 l)) (h (ix3 0 0 l)) := by
  pointwise [k0_pay4]
  rfl

variable (m : (ℓ : Loc nD τ sig) → Buf (Elt Ideal) ℓ)

/-- The contraction of one point's tiles. -/
def part (c : Dev nD) (t : Fin cfg0.N) (j : S512x2048.Idx) : EReal :=
  ∑ k, (show Vec Ideal S512x512 .bf16 from iblk m c 0 t) (ix2 (j 0 : Fin 512) k)
    * (show Vec Ideal S512x2048 .f32 from iblk m c 1 t) (ix2 k (j 1 : Fin 2048))

/-- At a run's last point the accumulator holds the whole contraction of its row tile. -/
theorem acc_at (c : Dev nD) (t : Fin cfg0.N) (ht : t.val % 11 = 10) (r : Fin 512) (l : Fin 2048) :
    (outsAt0 m c t.val t.isLt).2.2.2 (ix2 r l)
      = ∑ k : Fin 5632, (show Vec Ideal S8192x5632 .bf16 from m ((c : Thread nD τ).loc main_arg0))
          (ix2 ⟨t.val / 11 * 512 + r.val, by have := lt_of_lt_of_eq t.isLt N_0; omega⟩ k)
        * (show Vec Ideal S5632x2048 .f32 from m ((c : Thread nD τ).loc main_arg1)) (ix2 k l) := by
  rw [Pipeline.eq_sum_fin_of_reset_step_apply_of_flush (fun n h => (outsAt0 m c n h).2.2.2) 11 (fun _ => 0) (part m c)
    (fun t h j => by
      idx_vars j
      rw [outsAt0_A m c t h (by omega)]
      frame_out
      rw [step_at, zero_at]
      rfl)
    (fun t h j => by
      idx_vars j
      by_cases h1 : t.val % 11 = 10
      · rw [outsAt0_C m c t h h1]
        frame_out
        rw [step_at, show _ = _ from (Memref.isWhole_whole cc0_scratch0).read_unread _]
        rfl
      · rw [outsAt0_B m c t h h1]
        frame_out
        rw [step_at, show _ = _ from (Memref.isWhole_whole cc0_scratch0).read_unread _]
        rfl) t ht _, zero_add]
  unfold part
  refine Fin.sum_mul_add_congr fun s k hl => ?_
  blk_point [iblk, V, idx t, idx ⟨_, Pipeline.run_point_lt_of_flush t ht s⟩]

/-- What a run's last point writes back, over the accumulator that it leaves. -/
theorem out_at (c : Dev nD) (t : Fin cfg0.N) (ht : t.val % 11 = 10) (r : Fin 512) (l : Fin 2048) :
    (outsAt0 m c t.val t.isLt).1 (ix2 r l)
      = Cert.Ln.normed (fun k => Cert.Ln.residual ((show Vec Ideal S512x2048 .f32 from iblk m c 2 t) (ix2 r k))
          ((show Vec Ideal S1x1x2048 .f32 from iblk m c 3 t) (ix3 0 0 k)) ((outsAt0 m c t.val t.isLt).2.2.2 (ix2 r k)))
        ((show Vec Ideal S1x2048 .f32 from iblk m c 4 t) (ix2 0 l)) ((show Vec Ideal S1x2048 .f32 from iblk m c 5 t) (ix2 0 l)) l := by
  rw [outsAt0_C m c t (by omega) ht]
  frame_out
  rw [norm_at]

/-- The modulated block is made of the normed one. -/
theorem mod0_out (c : Dev nD) (t : Fin cfg0.N) (ht : t.val % 11 = 10) (r : Fin 512) (l : Fin 2048) :
    (outsAt0 m c t.val t.isLt).2.1 (ix2 r l) = Cert.Ln.modulated ((outsAt0 m c t.val t.isLt).1 (ix2 r l))
      ((show Vec Ideal S1x1x2048 .f32 from iblk m c 6 t) (ix3 0 0 l)) ((show Vec Ideal S1x1x2048 .f32 from iblk m c 7 t) (ix3 0 0 l)) := by
  rw [outsAt0_C m c t (by omega) ht]
  frame_out
  rw [mod0_at]

/-- The modulated block is made of the normed one. -/
theorem mod1_out (c : Dev nD) (t : Fin cfg0.N) (ht : t.val % 11 = 10) (r : Fin 512) (l : Fin 2048) :
    (outsAt0 m c t.val t.isLt).2.2.1 (ix2 r l) = Cert.Ln.modulated ((outsAt0 m c t.val t.isLt).1 (ix2 r l))
      ((show Vec Ideal S1x1x2048 .f32 from iblk m c 8 t) (ix3 0 0 l)) ((show Vec Ideal S1x1x2048 .f32 from iblk m c 9 t) (ix3 0 0 l)) := by
  rw [outsAt0_C m c t (by omega) ht]
  frame_out
  rw [mod1_at]

/-- The block that a run's last point writes back holds the reference's normed rows. -/
theorem rows_at (c : Dev nD) (t : Fin cfg0.N) (ht : t.val % 11 = 10) (r : Fin 512) (l : Fin 2048) :
    (outsAt0 m c t.val t.isLt).1 (ix2 r l)
    = Cert.FfnFirstRefIdeal.Read.val_main_v47 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (ix2 (⟨t.val / 11 * 512 + r.val, by have := lt_of_lt_of_eq t.isLt N_0; omega⟩ : Fin 8192) l) := by
  rw [out_at m c t ht, Cert.FfnFirstRefIdeal.Ln.ref_at]
  congr 1
  · funext k
    rw [acc_at m c t ht]
    blk_point [iblk, V, idx t]
  all_goals blk_point [iblk, V, idx t]

/-- The normed array after the run is the reference's. -/
theorem final (c : Dev nD) : (dats m 0 c).arrAt 10 (cfgs 0).N
    = Cert.FfnFirstRefIdeal.Read.val_main_v47 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 10 _ (by decide +kernel) fun t hf y => ?_
  have ht := (flush0_10 t).mp hf
  idx_vars y
  blk_simp
  rw [after0_10, show (win0_10.blk t).view.emb (ix2 y0 y1)
      = ix2 (⟨t.val / 11 * 512 + y0.val, by have := lt_of_lt_of_eq t.isLt N_0; omega⟩ : Fin 8192) y1 from by blk_ext [idx t]]
  exact rows_at m c t ht y0 y1

/-- The modulated array after the run is the reference's. -/
theorem final_mod0 (c : Dev nD) : (dats m 0 c).arrAt 11 (cfgs 0).N
    = Cert.FfnFirstRefIdeal.Read.val_main_v49 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 11 _ (by decide +kernel) fun t hf y => ?_
  have ht := (flush0_11 t).mp hf
  idx_vars y
  blk_simp
  rw [after0_11, show (win0_11.blk t).view.emb (ix2 y0 y1)
      = ix2 (⟨t.val / 11 * 512 + y0.val, by have := lt_of_lt_of_eq t.isLt N_0; omega⟩ : Fin 8192) y1 from by blk_ext [idx t],
    mod0_out m c t ht, Cert.FfnFirstRefIdeal.Ln.mod0_ref_at, rows_at m c t ht y0 y1]
  congr 1
  all_goals blk_point [iblk, V, idx t]

/-- The modulated array after the run is the reference's. -/
theorem final_mod1 (c : Dev nD) : (dats m 0 c).arrAt 12 (cfgs 0).N
    = Cert.FfnFirstRefIdeal.Read.val_main_v51 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg8)) (m ((c : Thread nD τ).loc main_arg9)) := by
  refine (dats m 0 c).arrAt_eq_of_covers 12 _ (by decide +kernel) fun t hf y => ?_
  have ht := (flush0_12 t).mp hf
  idx_vars y
  blk_simp
  rw [after0_12, show (win0_12.blk t).view.emb (ix2 y0 y1)
      = ix2 (⟨t.val / 11 * 512 + y0.val, by have := lt_of_lt_of_eq t.isLt N_0; omega⟩ : Fin 8192) y1 from by blk_ext [idx t],
    mod1_out m c t ht, Cert.FfnFirstRefIdeal.Ln.mod1_ref_at, rows_at m c t ht y0 y1]
  congr 1
  all_goals blk_point [iblk, V, idx t]

end Cert.FfnFirstIdeal.Ln

end
-- ==== Proof.OutProjValue.lean ====
module

public import proofs.«01_k».proof.Proof.NormMath
public import proofs.«01_k».proof.Proof.Gen.OutProjIdeal.Value
public import proofs.«01_k».proof.Proof.Gen.OutProjRefIdeal.Read
public import Idealize.ShloMosaic.Lib.Pipeline.ValueKit

/-! The product after a mixer with its residual sum, layer norm and modulation: the arrays that the call leaves. -/

@[expose] public section

set_option maxRecDepth 16384

noncomputable section

namespace Cert.OutProjRefIdeal.Ln

open Cert.OutProjRefIdeal Cert.OutProjRefIdeal.Gen Cert.OutProjRefIdeal.Read Idealize.ShloMosaic Idealize.ShloMosaic.TcCoe

variable (x0 : Vec Ideal S8192x2048 .bf16) (x1 : Vec Ideal S2048x2048 .f32) (x2 : Vec Ideal S8192x2048 .f32)
  (x3 : Vec Ideal S4x1x2048 .f32) (x4 x5 : Vec Ideal S2048 .f32) (x6 x7 : Vec Ideal S4x1x2048 .f32)

/-- The row of the residual sum, with the whole contraction. -/
abbrev row (r : Fin 8192) (k : Fin 2048) : EReal :=
  Cert.Ln.residual (x2 (ix2 r k)) (x3 (ix3 ⟨r.val / 2048, by omega⟩ 0 k)) (∑ j, x0 (ix2 r j) * x1 (ix2 j k))

/-- The reference at one element. -/
theorem ref_at (r : Fin 8192) (l : Fin 2048) : val_main_v41 (F := Ideal) x0 x1 x2 x3 x4 x5 (ix2 r l)
    = Cert.Ln.normed (row x0 x1 x2 x3 r) (x4 (ix1 l)) (x5 (ix1 l)) l := by
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22, val_main_v23,
    val_main_v24, val_main_v25, val_main_v26, val_main_v27, val_main_v28, val_main_v29, val_main_v30, val_main_v31,
    val_main_v32, val_main_v33, val_main_v34, val_main_v41, val_main_cst, val_main_cst_0, val_main_cst_1, val_main_cst_2,
    val_main_cst_3, val_main_cst_4, val_main_cst_5]
  rfl

/-- The reference's modulated rows for the part that reads them next. -/
theorem mod0_ref_at (r : Fin 8192) (l : Fin 2048) : val_main_v43 (F := Ideal) x0 x1 x2 x3 x4 x5 x6 x7 (ix2 r l)
    = Cert.Ln.modulated (val_main_v41 (F := Ideal) x0 x1 x2 x3 x4 x5 (ix2 r l))
      (x6 (ix3 ⟨r.val / 2048, by omega⟩ 0 l)) (x7 (ix3 ⟨r.val / 2048, by omega⟩ 0 l)) := by
  pointwise [val_main_v35, val_main_v36, val_main_v37, val_main_v38, val_main_v39, val_main_v40, val_main_v42, val_main_v43, val_main_cst_6, val_main_v41]
  rfl

end Cert.OutProjRefIdeal.Ln

namespace Cert.OutProjIdeal.Ln

open Cert.OutProjIdeal Cert.OutProjIdeal.Gen Idealize.ShloMosaic Idealize.ShloMosaic.TcCoe Idealize.SL.Sem
open Idealize.ShloMosaic.Pipeline (Dat)

/-- Which block each window stages at point `t`: row tile `t / 4`, contraction tile `t % 4`; a sequence has four row tiles. -/
theorem idx : ∀ t : Fin cfg0.N, win0_0.index t = ![t.val / 4, t.val % 4] ∧ win0_1.index t = ![t.val % 4, 0]
    ∧ win0_2.index t = ![t.val / 4, 0] ∧ win0_3.index t = ![t.val / 16, 0, 0] ∧ win0_4.index t = ![0, 0]
    ∧ win0_5.index t = ![0, 0] ∧ win0_6.index t = ![t.val / 16, 0, 0] ∧ win0_7.index t = ![t.val / 16, 0, 0]
    ∧ win0_8.index t = ![t.val / 4, 0] ∧ win0_9.index t = ![t.val / 4, 0] :=
  (by decide +kernel : ∀ t : Fin grid0.N, _)

/-- One accumulation step at an element. -/
theorem step_at (x : Vec Ideal S512x2048 .f32) (a : Vec Ideal S512x512 .bf16) (w : Vec Ideal S512x2048 .f32) (r : Fin 512)
    (l : Fin 2048) : k0_pay2 (F := Ideal) x a w (ix2 r l) = x (ix2 r l) + ∑ k, a (ix2 r k) * w (ix2 k l) := by
  pointwise [k0_pay2]

theorem zero_at (j : S512x2048.Idx) : k0_pay1 (F := Ideal) j = 0 := by
  pointwise [k0_pay1]

/-- The normed residual sum at an element. -/
theorem norm_at (x : Vec Ideal S512x2048 .f32) (g : Vec Ideal S1x1x2048 .f32) (a : Vec Ideal S512x2048 .f32)
    (lg lb : Vec Ideal S1x2048 .f32) (r : Fin 512) (l : Fin 2048) : k0_pay4 (F := Ideal) x g a lg lb (ix2 r l)
    = Cert.Ln.normed (fun k => Cert.Ln.residual (x (ix2 r k)) (g (ix3 0 0 k)) (a (ix2 r k))) (lg (ix2 0 l)) (lb (ix2 0 l)) l := by
  pointwise [k0_pay4]
  rfl

/-- The modulated element. -/
theorem mod0_at (y : FVec Ideal S512x2048 .f32) (s h : Vec Ideal S1x1x2048 .f32) (r : Fin 512) (l : Fin 2048) :
    k0_pay3 (F := Ideal) y s h (ix2 r l) = Cert.Ln.modulated (y (ix2 r l)) (s (ix3 0 0 l)) (h (ix3 0 0 l)) := by
  pointwise [k0_pay3]
  rfl

variable (m : (ℓ : Loc nD τ sig) → Buf (Elt Ideal) ℓ)

/-- The contraction of one point's tiles. -/
def part (c : Dev nD) (t : Fin cfg0.N) (j : S512x2048.Idx) : EReal :=
  ∑ k, (show Vec Ideal S512x512 .bf16 from iblk m c 0 t) (ix2 (j 0 : Fin 512) k)
    * (show Vec Ideal S512x2048 .f32 from iblk m c 1 t) (ix2 k (j 1 : Fin 2048))

/-- At a run's last point the accumulator holds the whole contraction of its row tile. -/
theorem acc_at (c : Dev nD) (t : Fin cfg0.N) (ht : t.val % 4 = 3) (r : Fin 512) (l : Fin 2048) :
    (outsAt0 m c t.val t.isLt).2.2 (ix2 r l)
      = ∑ k : Fin 2048, (show Vec Ideal S8192x2048 .bf16 from m ((c : Thread nD τ).loc main_arg0))
          (ix2 ⟨t.val / 4 * 512 + r.val, by have := lt_of_lt_of_eq t.isLt N_0; omega⟩ k)
        * (show Vec Ideal S2048x2048 .f32 from m ((c : Thread nD τ).loc main_arg1)) (ix2 k l) := by
  rw [Pipeline.eq_sum_fin_of_reset_step_apply_of_flush (fun n h => (outsAt0 m c n h).2.2) 4 (fun _ => 0) (part m c)
    (fun t h j => by
      idx_vars j
      rw [outsAt0_A m c t h (by omega)]
      frame_out
      rw [step_at, zero_at]
      rfl)
    (fun t h j => by
      idx_vars j
      by_cases h1 : t.val % 4 = 3
      · rw [outsAt0_C m c t h h1]
        frame_out
        rw [step_at, show _ = _ from (Memref.isWhole_whole cc0_scratch0).read_unread _]
        rfl
      · rw [outsAt0_B m c t h h1]
        frame_out
        rw [step_at, show _ = _ from (Memref.isWhole_whole cc0_scratch0).read_unread _]
        rfl) t ht _, zero_add]
  unfold part
  refine Fin.sum_mul_add_congr fun s k hl => ?_
  blk_point [iblk, V, idx t, idx ⟨_, Pipeline.run_point_lt_of_flush t ht s⟩]

/-- What a run's last point writes back, over the accumulator that it leaves. -/
theorem out_at (c : Dev nD) (t : Fin cfg0.N) (ht : t.val % 4 = 3) (r : Fin 512) (l : Fin 2048) :
    (outsAt0 m c t.val t.isLt).1 (ix2 r l)
      = Cert.Ln.normed (fun k => Cert.Ln.residual ((show Vec Ideal S512x2048 .f32 from iblk m c 2 t) (ix2 r k))
          ((show Vec Ideal S1x1x2048 .f32 from iblk m c 3 t) (ix3 0 0 k)) ((outsAt0 m c t.val t.isLt).2.2 (ix2 r k)))
        ((show Vec Ideal S1x2048 .f32 from iblk m c 4 t) (ix2 0 l)) ((show Vec Ideal S1x2048 .f32 from iblk m c 5 t) (ix2 0 l)) l := by
  rw [outsAt0_C m c t (by omega) ht]
  frame_out
  rw [norm_at]

/-- The modulated block is made of the normed one. -/
theorem mod0_out (c : Dev nD) (t : Fin cfg0.N) (ht : t.val % 4 = 3) (r : Fin 512) (l : Fin 2048) :
    (outsAt0 m c t.val t.isLt).2.1 (ix2 r l) = Cert.Ln.modulated ((outsAt0 m c t.val t.isLt).1 (ix2 r l))
      ((show Vec Ideal S1x1x2048 .f32 from iblk m c 6 t) (ix3 0 0 l)) ((show Vec Ideal S1x1x2048 .f32 from iblk m c 7 t) (ix3 0 0 l)) := by
  rw [outsAt0_C m c t (by omega) ht]
  frame_out
  rw [mod0_at]

/-- The block that a run's last point writes back holds the reference's normed rows. -/
theorem rows_at (c : Dev nD) (t : Fin cfg0.N) (ht : t.val % 4 = 3) (r : Fin 512) (l : Fin 2048) :
    (outsAt0 m c t.val t.isLt).1 (ix2 r l)
    = Cert.OutProjRefIdeal.Read.val_main_v41 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (ix2 (⟨t.val / 4 * 512 + r.val, by have := lt_of_lt_of_eq t.isLt N_0; omega⟩ : Fin 8192) l) := by
  rw [out_at m c t ht, Cert.OutProjRefIdeal.Ln.ref_at]
  congr 1
  · funext k
    rw [acc_at m c t ht]
    blk_point [iblk, V, idx t]
  all_goals blk_point [iblk, V, idx t]

/-- The normed array after the run is the reference's. -/
theorem final (c : Dev nD) : (dats m 0 c).arrAt 8 (cfgs 0).N
    = Cert.OutProjRefIdeal.Read.val_main_v41 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 8 _ (by decide +kernel) fun t hf y => ?_
  have ht := (flush0_8 t).mp hf
  idx_vars y
  blk_simp
  rw [after0_8, show (win0_8.blk t).view.emb (ix2 y0 y1)
      = ix2 (⟨t.val / 4 * 512 + y0.val, by have := lt_of_lt_of_eq t.isLt N_0; omega⟩ : Fin 8192) y1 from by blk_ext [idx t]]
  exact rows_at m c t ht y0 y1

/-- The modulated array after the run is the reference's. -/
theorem final_mod0 (c : Dev nD) : (dats m 0 c).arrAt 9 (cfgs 0).N
    = Cert.OutProjRefIdeal.Read.val_main_v43 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 9 _ (by decide +kernel) fun t hf y => ?_
  have ht := (flush0_9 t).mp hf
  idx_vars y
  blk_simp
  rw [after0_9, show (win0_9.blk t).view.emb (ix2 y0 y1)
      = ix2 (⟨t.val / 4 * 512 + y0.val, by have := lt_of_lt_of_eq t.isLt N_0; omega⟩ : Fin 8192) y1 from by blk_ext [idx t],
    mod0_out m c t ht, Cert.OutProjRefIdeal.Ln.mod0_ref_at, rows_at m c t ht y0 y1]
  congr 1
  all_goals blk_point [iblk, V, idx t]

end Cert.OutProjIdeal.Ln

end
-- ==== Proof.LnClaim.lean ====
module

public import proofs.«01_k».proof.Defs
public import proofs.«01_k».proof.Proof.FfnLastValue
public import proofs.«01_k».proof.Proof.FfnFirstValue
public import proofs.«01_k».proof.Proof.OutProjValue
public import Idealize.ShloMosaic.Lib.Claim

/-! The claims about the products with residual sum and layer norm. -/

@[expose] public section

set_option maxRecDepth 16384

noncomputable section

namespace Cert.Proof

open Idealize.ShloMosaic Idealize.SL.Sem

section FfnLast

attribute [local instance] Cert.FfnLastIdeal.Gen.facts Cert.FfnLastRefIdeal.Gen.facts

/-- The reference runs and leaves its arguments; it declares no semaphore. -/
theorem ffnLast_ref_frame : Cert.quiescent_FfnLastRefIdeal := fun m g _ =>
  (θ_run Cert.FfnLastRefIdeal.defs _ _).mono (fun r h => ⟨fun c => (h c).2, sem_eq_zero_of_no_sems (by decide) r.2⟩)
    (Cert.FfnLastRefIdeal.Value.run m g)

/-- The last feed-forward product under residual sum and layer norm is what its reference computes. -/
theorem ffnLast_algebraic : Cert.algebraic_FfnLastIdeal_FfnLastRefIdeal := by
  pair_intro
  · run_from Cert.FfnLastIdeal.Gen.run_main m g
  · run_from Cert.FfnLastRefIdeal.Value.run m' g'
    obtain ⟨h0, h1, h2, h3, h4, h5⟩ := hagree c
    rw [FfnLastIdeal.Ln.final m c, FfnLastRefIdeal.Read.val_main_v35_eq, h0, h1, h2, h3, h4, h5]

end FfnLast

section FfnFirst

attribute [local instance] Cert.FfnFirstIdeal.Gen.facts Cert.FfnFirstRefIdeal.Gen.facts

/-- The reference runs and leaves its arguments; it declares no semaphore. -/
theorem ffnFirst_ref_frame : Cert.quiescent_FfnFirstRefIdeal := fun m g _ =>
  (θ_run Cert.FfnFirstRefIdeal.defs _ _).mono (fun r h => ⟨fun c => (h c).2.2.2, sem_eq_zero_of_no_sems (by decide) r.2⟩)
    (Cert.FfnFirstRefIdeal.Value.run m g)

set_option maxHeartbeats 2000000 in
/-- The first layer's last feed-forward product under residual sum, layer norm and two modulations is what its reference computes. -/
theorem ffnFirst_algebraic : Cert.algebraic_FfnFirstIdeal_FfnFirstRefIdeal := by
  pair_intro
  · run_from Cert.FfnFirstIdeal.Gen.run_main m g
  · run_from Cert.FfnFirstRefIdeal.Value.run m' g'
    · obtain ⟨h0, h1, h2, h3, h4, h5, h6, h7, h8, h9⟩ := hagree c
      rw [FfnFirstIdeal.Ln.final m c, FfnFirstRefIdeal.Read.val_main_v47_eq, h0, h1, h2, h3, h4, h5]
    · obtain ⟨h0, h1, h2, h3, h4, h5, h6, h7, h8, h9⟩ := hagree c
      rw [FfnFirstIdeal.Ln.final_mod0 m c, FfnFirstRefIdeal.Read.val_main_v49_eq, h0, h1, h2, h3, h4, h5, h6, h7]
    · obtain ⟨h0, h1, h2, h3, h4, h5, h6, h7, h8, h9⟩ := hagree c
      rw [FfnFirstIdeal.Ln.final_mod1 m c, FfnFirstRefIdeal.Read.val_main_v51_eq, h0, h1, h2, h3, h4, h5, h8, h9]

end FfnFirst

section OutProj

attribute [local instance] Cert.OutProjIdeal.Gen.facts Cert.OutProjRefIdeal.Gen.facts

/-- The reference runs and leaves its arguments; it declares no semaphore. -/
theorem outProj_ref_frame : Cert.quiescent_OutProjRefIdeal := fun m g _ =>
  (θ_run Cert.OutProjRefIdeal.defs _ _).mono (fun r h => ⟨fun c => (h c).2.2, sem_eq_zero_of_no_sems (by decide) r.2⟩)
    (Cert.OutProjRefIdeal.Value.run m g)

/-- A mixer's output product under residual sum, layer norm and modulation is what its reference computes. -/
theorem outProj_algebraic : Cert.algebraic_OutProjIdeal_OutProjRefIdeal := by
  pair_intro
  · run_from Cert.OutProjIdeal.Gen.run_main m g
  · run_from Cert.OutProjRefIdeal.Value.run m' g'
    · obtain ⟨h0, h1, h2, h3, h4, h5, h6, h7⟩ := hagree c
      rw [OutProjIdeal.Ln.final m c, OutProjRefIdeal.Read.val_main_v41_eq, h0, h1, h2, h3, h4, h5]
    · obtain ⟨h0, h1, h2, h3, h4, h5, h6, h7⟩ := hagree c
      rw [OutProjIdeal.Ln.final_mod0 m c, OutProjRefIdeal.Read.val_main_v43_eq, h0, h1, h2, h3, h4, h5, h6, h7]

end OutProj

end Cert.Proof

end
-- ==== Proof.KvSampleValue.lean ====
module

public import proofs.«01_k».proof.Proof.Gen.KvSampleIdeal.Value
public import proofs.«01_k».proof.Proof.Gen.KvSampleRefIdeal.Read
public import Idealize.ShloMosaic.Lib.Pipeline.ValueKit
public import Idealize.ShloMosaic.Lib.Pointwise

/-! The sample batch's projection to keys and values: the array that the call leaves is the product. -/

@[expose] public section

set_option maxRecDepth 16384

noncomputable section

namespace Cert.KvSampleIdeal.Mm

open Cert.KvSampleIdeal Cert.KvSampleIdeal.Gen Idealize.ShloMosaic Idealize.ShloMosaic.TcCoe Idealize.SL.Sem
open Idealize.ShloMosaic.Pipeline (Dat)

variable (m : (ℓ : Loc nD τ sig) → Buf (Elt Ideal) ℓ)

/-- Which block each window stages at point `t`: the whole rows and column tile `t`. -/
theorem idx : ∀ t : Fin cfg0.N, win0_0.index t = ![0, 0] ∧ win0_1.index t = ![0, t.val] ∧ win0_2.index t = ![0, t.val] :=
  (by decide +kernel : ∀ t : Fin grid0.N, _)

/-- Rounding a weight block changes nothing over the ideal numbers. -/
theorem pay1_eq (w : Vec Ideal S2048x512 .f32) : k0_pay1 (F := Ideal) w = w := by
  funext j
  pointwise [k0_pay1]

/-- The output array after the run is the reference's array. -/
theorem final (c : Dev nD) : (dats m 0 c).arrAt 2 (cfgs 0).N
    = Cert.KvSampleRefIdeal.Read.val_main_v1 (F := Ideal) (m ((c : Thread nD τ).loc main_arg0)) (m ((c : Thread nD τ).loc main_arg1)) := by
  refine (dats m 0 c).arrAt_eq_of_covers 2 _ (by decide +kernel) fun t _ y => ?_
  idx_vars y
  blk_simp
  rw [after0_2]
  unfold outsAt0
  frame_out
  rw [pay1_eq]
  pointwise [k0_pay2, Cert.KvSampleRefIdeal.Read.val_main_v1, Cert.KvSampleRefIdeal.Read.val_main_v0]
  blk_point [iblk, V, idx t]

end Cert.KvSampleIdeal.Mm

end
-- ==== Proof.LastSampleValue.lean ====
module

public import proofs.«01_k».proof.Proof.NormMath
public import proofs.«01_k».proof.Proof.Gen.LastSampleIdeal.Value
public import proofs.«01_k».proof.Proof.Gen.LastSampleRefIdeal.Read
public import Idealize.ShloMosaic.Lib.Pipeline.ValueKit

/-! The sample batch's last feed-forward product with its residual sum and layer norm: the array that the call leaves. -/

@[expose] public section

set_option maxRecDepth 16384

noncomputable section

namespace Cert.LastSampleRefIdeal.Ln

open Cert.LastSampleRefIdeal Cert.LastSampleRefIdeal.Gen Cert.LastSampleRefIdeal.Read Idealize.ShloMosaic Idealize.ShloMosaic.TcCoe

variable (x0 : Vec Ideal S256x5632 .bf16) (x1 : Vec Ideal S5632x2048 .f32) (x2 : Vec Ideal S256x2048 .f32)
  (x3 : Vec Ideal S32x2048 .f32) (x4 x5 : Vec Ideal S2048 .f32)

/-- The row of the residual sum, with the whole contraction. -/
abbrev row (r : Fin 256) (k : Fin 2048) : EReal :=
  Cert.Ln.residual (x2 (ix2 r k)) (x3 (ix2 ⟨r.val / 8, by omega⟩ k)) (∑ j, x0 (ix2 r j) * x1 (ix2 j k))

/-- The reference at one element. -/
theorem ref_at (r : Fin 256) (l : Fin 2048) : val_main_v36 (F := Ideal) x0 x1 x2 x3 x4 x5 (ix2 r l)
    = Cert.Ln.normed (row x0 x1 x2 x3 r) (x4 (ix1 l)) (x5 (ix1 l)) l := by
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22, val_main_v23,
    val_main_v24, val_main_v25, val_main_v26, val_main_v27, val_main_v28, val_main_v29, val_main_v30, val_main_v31,
    val_main_v32, val_main_v33, val_main_v34, val_main_v35, val_main_v36, val_main_cst, val_main_cst_0, val_main_cst_1, val_main_cst_2,
    val_main_cst_3, val_main_cst_4, val_main_cst_5]
  rfl

end Cert.LastSampleRefIdeal.Ln

namespace Cert.LastSampleIdeal.Ln

open Cert.LastSampleIdeal Cert.LastSampleIdeal.Gen Idealize.ShloMosaic Idealize.ShloMosaic.TcCoe Idealize.SL.Sem
open Idealize.ShloMosaic.Pipeline (Dat)

/-- Which block each window stages at point `t`: contraction tile `t` of all the rows. -/
theorem idx : ∀ t : Fin cfg0.N, win0_0.index t = ![0, t.val] ∧ win0_1.index t = ![t.val, 0]
    ∧ win0_2.index t = ![0, 0] ∧ win0_3.index t = ![0, 0, 0] ∧ win0_4.index t = ![0, 0]
    ∧ win0_5.index t = ![0, 0] ∧ win0_6.index t = ![0, 0] :=
  (by decide +kernel : ∀ t : Fin grid0.N, _)

/-- One accumulation step at an element. -/
theorem step_at (x : Vec Ideal S256x2048 .f32) (a : Vec Ideal S256x512 .bf16) (w : Vec Ideal S512x2048 .f32) (r : Fin 256)
    (l : Fin 2048) : k0_pay2 (F := Ideal) x a w (ix2 r l) = x (ix2 r l) + ∑ k, a (ix2 r k) * w (ix2 k l) := by
  pointwise [k0_pay2]

theorem zero_at (j : S256x2048.Idx) : k0_pay1 (F := Ideal) j = 0 := by
  pointwise [k0_pay1]

/-- The normed residual sum at an element. -/
theorem norm_at (x : Vec Ideal S256x2048 .f32) (g : Vec Ideal S1x256x2048 .f32) (a : Vec Ideal S256x2048 .f32)
    (lg lb : Vec Ideal S1x2048 .f32) (r : Fin 256) (l : Fin 2048) : k0_pay3 (F := Ideal) x g a lg lb (ix2 r l)
    = Cert.Ln.normed (fun k => Cert.Ln.residual (x (ix2 r k)) (g (ix3 0 r k)) (a (ix2 r k))) (lg (ix2 0 l)) (lb (ix2 0 l)) l := by
  pointwise [k0_pay3]
  rfl

variable (m : (ℓ : Loc nD τ sig) → Buf (Elt Ideal) ℓ)

/-- The contraction of one point's tiles. -/
def part (c : Dev nD) (t : Fin cfg0.N) (j : S256x2048.Idx) : EReal :=
  ∑ k, (show Vec Ideal S256x512 .bf16 from iblk m c 0 t) (ix2 (j 0 : Fin 256) k)
    * (show Vec Ideal S512x2048 .f32 from iblk m c 1 t) (ix2 k (j 1 : Fin 2048))

/-- At the last point the accumulator holds the whole contraction. -/
theorem acc_at (c : Dev nD) (t : Fin cfg0.N) (ht : t.val % 11 = 10) (r : Fin 256) (l : Fin 2048) :
    (outsAt0 m c t.val t.isLt).2 (ix2 r l)
      = ∑ k : Fin 5632, (show Vec Ideal S256x5632 .bf16 from m ((c : Thread nD τ).loc main_arg0)) (ix2 r k)
        * (show Vec Ideal S5632x2048 .f32 from m ((c : Thread nD τ).loc main_arg1)) (ix2 k l) := by
  rw [Pipeline.eq_sum_fin_of_reset_step_apply_of_flush (fun n h => (outsAt0 m c n h).2) 11 (fun _ => 0) (part m c)
    (fun t h j => by
      idx_vars j
      rw [outsAt0_A m c t h (by omega)]
      frame_out
      rw [step_at, zero_at]
      rfl)
    (fun t h j => by
      idx_vars j
      by_cases h1 : t.val % 11 = 10
      · rw [outsAt0_C m c t h h1]
        frame_out
        rw [step_at, show _ = _ from (Memref.isWhole_whole cc0_scratch0).read_unread _]
        rfl
      · rw [outsAt0_B m c t h h1]
        frame_out
        rw [step_at, show _ = _ from (Memref.isWhole_whole cc0_scratch0).read_unread _]
        rfl) t ht _, zero_add]
  unfold part
  refine Fin.sum_mul_add_congr fun s k hl => ?_
  have hN := lt_of_lt_of_eq t.isLt N_0
  blk_point [iblk, V, idx t, idx ⟨_, Pipeline.run_point_lt_of_flush t ht s⟩]

/-- What the last point writes back, over the accumulator that it leaves. -/
theorem out_at (c : Dev nD) (t : Fin cfg0.N) (ht : t.val % 11 = 10) (r : Fin 256) (l : Fin 2048) :
    (outsAt0 m c t.val t.isLt).1 (ix2 r l)
      = Cert.Ln.normed (fun k => Cert.Ln.residual ((show Vec Ideal S256x2048 .f32 from iblk m c 2 t) (ix2 r k))
          ((show Vec Ideal S1x256x2048 .f32 from iblk m c 3 t) (ix3 0 r k)) ((outsAt0 m c t.val t.isLt).2 (ix2 r k)))
        ((show Vec Ideal S1x2048 .f32 from iblk m c 4 t) (ix2 0 l)) ((show Vec Ideal S1x2048 .f32 from iblk m c 5 t) (ix2 0 l)) l := by
  rw [outsAt0_C m c t (by omega) ht]
  frame_out
  rw [norm_at]

/-- The output array after the run is the reference's array. -/
theorem final (c : Dev nD) : (dats m 0 c).arrAt 6 (cfgs 0).N
    = Cert.LastSampleRefIdeal.Read.val_main_v36 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  refine (dats m 0 c).arrAt_eq_of_covers 6 _ (by decide +kernel) fun t hf y => ?_
  have ht := (flush0_6 t).mp hf
  idx_vars y
  blk_simp
  rw [after0_6, out_at m c t ht]
  rw [show (win0_6.blk t).view.emb (ix2 y0 y1) = ix2 y0 y1 from by blk_ext [idx t],
    Cert.LastSampleRefIdeal.Ln.ref_at]
  congr 1
  · funext k
    rw [acc_at m c t ht]
    blk_point [iblk, V, idx t]
  all_goals blk_point [iblk, V, idx t]

end Cert.LastSampleIdeal.Ln

end
-- ==== Proof.SampleClaim.lean ====
module

public import proofs.«01_k».proof.Defs
public import proofs.«01_k».proof.Proof.KvSampleValue
public import proofs.«01_k».proof.Proof.LastSampleValue
public import Idealize.ShloMosaic.Lib.Claim

/-! The claims about the sample batch's keys and values and its last feed-forward product. -/

@[expose] public section

set_option maxRecDepth 16384

noncomputable section

namespace Cert.Proof

open Idealize.ShloMosaic Idealize.SL.Sem

section KvSample

attribute [local instance] Cert.KvSampleIdeal.Gen.facts Cert.KvSampleRefIdeal.Gen.facts

/-- The reference runs and leaves its arguments; it declares no semaphore. -/
theorem kvSample_ref_frame : Cert.quiescent_KvSampleRefIdeal := fun m g _ =>
  (θ_run Cert.KvSampleRefIdeal.defs _ _).mono (fun r h => ⟨fun c => (h c).2, sem_eq_zero_of_no_sems (by decide) r.2⟩)
    (Cert.KvSampleRefIdeal.Value.run m g)

/-- The sample batch's projection to keys and values is the product. -/
theorem kvSample_algebraic : Cert.algebraic_KvSampleIdeal_KvSampleRefIdeal := by
  pair_intro
  · run_from Cert.KvSampleIdeal.Gen.run_main m g
  · run_from Cert.KvSampleRefIdeal.Value.run m' g'
    exact (Cert.KvSampleIdeal.Mm.final m c).symm

end KvSample

section LastSample

attribute [local instance] Cert.LastSampleIdeal.Gen.facts Cert.LastSampleRefIdeal.Gen.facts

/-- The reference runs and leaves its arguments; it declares no semaphore. -/
theorem lastSample_ref_frame : Cert.quiescent_LastSampleRefIdeal := fun m g _ =>
  (θ_run Cert.LastSampleRefIdeal.defs _ _).mono (fun r h => ⟨fun c => (h c).2, sem_eq_zero_of_no_sems (by decide) r.2⟩)
    (Cert.LastSampleRefIdeal.Value.run m g)

/-- The sample batch's last feed-forward product under residual sum and layer norm is what its reference computes. -/
theorem lastSample_algebraic : Cert.algebraic_LastSampleIdeal_LastSampleRefIdeal := by
  pair_intro
  · run_from Cert.LastSampleIdeal.Gen.run_main m g
  · run_from Cert.LastSampleRefIdeal.Value.run m' g'
    obtain ⟨h0, h1, h2, h3, h4, h5⟩ := hagree c
    rw [LastSampleIdeal.Ln.final m c, LastSampleRefIdeal.Read.val_main_v36_eq, h0, h1, h2, h3, h4, h5]

end LastSample

end Cert.Proof

end
-- ==== Proof.lean ====
/- The claims about ten calls of the layer: the recurrence, the projections, and the feed-forward products. -/
module

public import proofs.«01_k».proof.Defs
public import proofs.«01_k».proof.Proof.Gen.Hgrn
public import proofs.«01_k».proof.Proof.Gen.Hgrn.Skeleton
public import proofs.«01_k».proof.Proof.Gen.Hgrn.Launch
public import proofs.«01_k».proof.Proof.Gen.Hgrn.Points
public import proofs.«01_k».proof.Proof.Gen.Hgrn.Frame
public import proofs.«01_k».proof.Proof.Gen.HgrnIdeal
public import proofs.«01_k».proof.Proof.Gen.HgrnIdeal.Skeleton
public import proofs.«01_k».proof.Proof.Gen.HgrnIdeal.Launch
public import proofs.«01_k».proof.Proof.Gen.HgrnIdeal.Points
public import proofs.«01_k».proof.Proof.Gen.HgrnIdeal.Frame
public import proofs.«01_k».proof.Proof.Gen.HgrnRefIdeal
public import proofs.«01_k».proof.Proof.Gen.Swiglu
public import proofs.«01_k».proof.Proof.Gen.Swiglu.Skeleton
public import proofs.«01_k».proof.Proof.Gen.Swiglu.Launch
public import proofs.«01_k».proof.Proof.Gen.Swiglu.Points
public import proofs.«01_k».proof.Proof.Gen.Swiglu.Frame
public import proofs.«01_k».proof.Proof.Gen.SwigluIdeal
public import proofs.«01_k».proof.Proof.Gen.SwigluIdeal.Skeleton
public import proofs.«01_k».proof.Proof.Gen.SwigluIdeal.Launch
public import proofs.«01_k».proof.Proof.Gen.SwigluIdeal.Points
public import proofs.«01_k».proof.Proof.Gen.SwigluIdeal.Frame
public import proofs.«01_k».proof.Proof.Gen.SwigluRefIdeal
public import proofs.«01_k».proof.Proof.Gen.HgrnIdeal.Value
public import proofs.«01_k».proof.Proof.Gen.SwigluIdeal.Value
public import proofs.«01_k».proof.Proof.Gen.HgrnRefIdeal.Read
public import proofs.«01_k».proof.Proof.Gen.SwigluRefIdeal.Read
public import proofs.«01_k».proof.Proof.Gen.InProj
public import proofs.«01_k».proof.Proof.Gen.InProj.Frame
public import proofs.«01_k».proof.Proof.Gen.KvProj
public import proofs.«01_k».proof.Proof.Gen.KvProj.Frame
public import proofs.«01_k».proof.Proof.Gen.QProj
public import proofs.«01_k».proof.Proof.Gen.QProj.Frame
public import proofs.«01_k».proof.Proof.Gen.FfnLast
public import proofs.«01_k».proof.Proof.Gen.FfnLast.Frame
public import proofs.«01_k».proof.Proof.Gen.FfnFirst
public import proofs.«01_k».proof.Proof.Gen.FfnFirst.Frame
public import proofs.«01_k».proof.Proof.Gen.OutProj
public import proofs.«01_k».proof.Proof.Gen.OutProj.Frame
public import proofs.«01_k».proof.Proof.Gen.InProjIdeal.Value
public import proofs.«01_k».proof.Proof.Gen.InProjRefIdeal.Read
public import proofs.«01_k».proof.Proof.Gen.KvProjIdeal.Value
public import proofs.«01_k».proof.Proof.Gen.KvProjRefIdeal.Read
public import proofs.«01_k».proof.Proof.Gen.QProjIdeal.Value
public import proofs.«01_k».proof.Proof.Gen.QProjRefIdeal.Read
public import proofs.«01_k».proof.Proof.Gen.FfnLastIdeal.Value
public import proofs.«01_k».proof.Proof.Gen.FfnLastRefIdeal.Read
public import proofs.«01_k».proof.Proof.Gen.FfnFirstIdeal.Value
public import proofs.«01_k».proof.Proof.Gen.FfnFirstRefIdeal.Read
public import proofs.«01_k».proof.Proof.Gen.OutProjIdeal.Value
public import proofs.«01_k».proof.Proof.Gen.OutProjRefIdeal.Read
public import proofs.«01_k».proof.Proof.Gen.KvSample
public import proofs.«01_k».proof.Proof.Gen.KvSample.Frame
public import proofs.«01_k».proof.Proof.Gen.KvSampleIdeal.Value
public import proofs.«01_k».proof.Proof.Gen.KvSampleRefIdeal.Read
public import proofs.«01_k».proof.Proof.Gen.LastSample
public import proofs.«01_k».proof.Proof.Gen.LastSample.Frame
public import proofs.«01_k».proof.Proof.Gen.LastSampleIdeal.Value
public import proofs.«01_k».proof.Proof.Gen.LastSampleRefIdeal.Read
public import proofs.«01_k».proof.Proof.HgrnClaim
public import proofs.«01_k».proof.Proof.SwigluClaim
public import proofs.«01_k».proof.Proof.ProjClaim
public import proofs.«01_k».proof.Proof.LnClaim
public import proofs.«01_k».proof.Proof.SampleClaim
public import Idealize.ShloMosaic.Adequacy
public import Idealize.ShloMosaic.Init

@[expose] public section

noncomputable section

namespace Cert.Proof

open Idealize.ShloMosaic Idealize.SL.Sem Cert.Hgrn

/-- Every call terminates and leaves its arguments, and computes over the extended reals what its reference computes. -/
theorem claim : Cert.Claim :=
  ⟨Cert.Hgrn.Gen.facts, Cert.HgrnIdeal.Gen.facts, Cert.HgrnRefIdeal.Gen.facts,
    Cert.Swiglu.Gen.facts, Cert.SwigluIdeal.Gen.facts, Cert.SwigluRefIdeal.Gen.facts,
    Cert.InProj.Gen.facts, Cert.InProjIdeal.Gen.facts, Cert.InProjRefIdeal.Gen.facts,
    Cert.KvProj.Gen.facts, Cert.KvProjIdeal.Gen.facts, Cert.KvProjRefIdeal.Gen.facts,
    Cert.QProj.Gen.facts, Cert.QProjIdeal.Gen.facts, Cert.QProjRefIdeal.Gen.facts,
    Cert.FfnLast.Gen.facts, Cert.FfnLastIdeal.Gen.facts, Cert.FfnLastRefIdeal.Gen.facts,
    Cert.FfnFirst.Gen.facts, Cert.FfnFirstIdeal.Gen.facts, Cert.FfnFirstRefIdeal.Gen.facts,
    Cert.OutProj.Gen.facts, Cert.OutProjIdeal.Gen.facts, Cert.OutProjRefIdeal.Gen.facts,
    Cert.KvSample.Gen.facts, Cert.KvSampleIdeal.Gen.facts, Cert.KvSampleRefIdeal.Gen.facts,
    Cert.LastSample.Gen.facts, Cert.LastSampleIdeal.Gen.facts, Cert.LastSampleRefIdeal.Gen.facts,
    bounds_facts,
    fun m g _ => Cert.Hgrn.Gen.frame m g, fun m g _ => Cert.HgrnIdeal.Gen.frame m g,
    fun m g _ => Cert.HgrnIdeal.Gen.frame m g, hgrn_ref_frame, hgrn_ref_frame_bounds,
    fun m g _ => Cert.Swiglu.Gen.frame m g, fun m g _ => Cert.SwigluIdeal.Gen.frame m g, swiglu_ref_frame,
    fun m g _ => Cert.InProj.Gen.frame m g, fun m g _ => Cert.InProjIdeal.Gen.frame m g, inProj_ref_frame,
    fun m g _ => Cert.KvProj.Gen.frame m g, fun m g _ => Cert.KvProjIdeal.Gen.frame m g, kvProj_ref_frame,
    fun m g _ => Cert.QProj.Gen.frame m g, fun m g _ => Cert.QProjIdeal.Gen.frame m g, qProj_ref_frame,
    fun m g _ => Cert.FfnLast.Gen.frame m g, fun m g _ => Cert.FfnLastIdeal.Gen.frame m g, ffnLast_ref_frame,
    fun m g _ => Cert.FfnFirst.Gen.frame m g, fun m g _ => Cert.FfnFirstIdeal.Gen.frame m g, ffnFirst_ref_frame,
    fun m g _ => Cert.OutProj.Gen.frame m g, fun m g _ => Cert.OutProjIdeal.Gen.frame m g, outProj_ref_frame,
    fun m g _ => Cert.KvSample.Gen.frame m g, fun m g _ => Cert.KvSampleIdeal.Gen.frame m g, kvSample_ref_frame,
    fun m g _ => Cert.LastSample.Gen.frame m g, fun m g _ => Cert.LastSampleIdeal.Gen.frame m g, lastSample_ref_frame,
    trivial, hgrn_algebraic, trivial, swiglu_algebraic, trivial, inProj_algebraic, trivial, kvProj_algebraic,
    trivial, qProj_algebraic, trivial, ffnLast_algebraic, trivial, ffnFirst_algebraic, trivial, outProj_algebraic,
    trivial, kvSample_algebraic, trivial, lastSample_algebraic⟩

end Cert.Proof

end
